-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x64x4096 : Shape := ⟨3, ![4, 64, 4096]⟩
abbrev S8x1024x64 : Shape := ⟨3, ![8, 1024, 64]⟩
abbrev S_ : Shape := ⟨0, ![]⟩

class Facts : Prop where
  bcast_S_S4x64x4096 : S_.BroadcastsInDim S4x64x4096 (![] : Fin 0 → Fin S4x64x4096.rank)
  bcast_S_S8x1024x64 : S_.BroadcastsInDim S8x1024x64 (![] : Fin 0 → Fin S8x1024x64.rank)

variable [Facts]

def fn {F : FTy → Type} [FloatOps F] (main_arg0 : FVec F S4x64x4096 .f32) (main_arg1 : FVec F S8x1024x64 .f32) : IVec S4x64x4096 1 × IVec S8x1024x64 1 :=
  let main_v0 : FVec F S4x64x4096 .f32 := Host.absf main_arg0
  let main_cst : FVec F S_ .f32 := constant S_ .f32 0x7F800000#32
  let main_v1 : FVec F S4x64x4096 .f32 := broadcastInDim S4x64x4096 ![] bcast_S_S4x64x4096 main_cst
  let main_v2 : IVec S4x64x4096 1 := cmpf .olt main_v0 main_v1
  let main_v3 : FVec F S8x1024x64 .f32 := Host.absf main_arg1
  let main_cst_0 : FVec F S_ .f32 := constant S_ .f32 0x7F800000#32
  let main_v4 : FVec F S8x1024x64 .f32 := broadcastInDim S8x1024x64 ![] bcast_S_S8x1024x64 main_cst_0
  let main_v5 : IVec S8x1024x64 1 := cmpf .olt main_v3 main_v4
  (main_v2, main_v5)
-- ==== Kernel.lean ====
abbrev S4x64x4096 : Shape := ⟨3, ![4, 64, 4096]⟩
abbrev S8x1024x64 : Shape := ⟨3, ![8, 1024, 64]⟩
abbrev S8x1024x192 : Shape := ⟨3, ![8, 1024, 192]⟩
abbrev S_ : Shape := ⟨0, ![]⟩
abbrev S8x1024 : Shape := ⟨2, ![8, 1024]⟩
abbrev S1x64x2048 : Shape := ⟨3, ![1, 64, 2048]⟩
abbrev S64x2048 : Shape := ⟨2, ![64, 2048]⟩
abbrev S2048x1024 : Shape := ⟨2, ![2048, 1024]⟩
abbrev S1x1024x64 : Shape := ⟨3, ![1, 1024, 64]⟩
abbrev S1024x64 : Shape := ⟨2, ![1024, 64]⟩
abbrev S1x1024x192 : Shape := ⟨3, ![1, 1024, 192]⟩
abbrev S1024x192 : Shape := ⟨2, ![1024, 192]⟩
abbrev S1x1024 : Shape := ⟨2, ![1, 1024]⟩
abbrev S1024 : Shape := ⟨1, ![1024]⟩
abbrev S2048 : Shape := ⟨1, ![2048]⟩
abbrev S2048x1 : Shape := ⟨2, ![2048, 1]⟩
abbrev S192x2048 : Shape := ⟨2, ![192, 2048]⟩

abbrev nBuf : Space → Nat
  | .hbm => 8
  | .vmem => 10
  | .smem => 0
  | _ => 0

abbrev bufTy : (tb : Table) → Fin (tcTables nBuf tb) → BufTy
  | .hbm, ⟨0, _⟩ => ⟨S4x64x4096, .f32⟩
  | .hbm, ⟨1, _⟩ => ⟨S8x1024x64, .f32⟩
  | .hbm, ⟨2, _⟩ => ⟨S8x1024x64, .bf16⟩
  | .hbm, ⟨3, _⟩ => ⟨S8x1024x192, .bf16⟩
  | .hbm, ⟨4, _⟩ => ⟨S8x1024x64, .f32⟩
  | .hbm, ⟨5, _⟩ => ⟨S_, .f32⟩
  | .hbm, ⟨6, _⟩ => ⟨S8x1024, .f32⟩
  | .hbm, ⟨7, _⟩ => ⟨S4x64x4096, .f32⟩
  | .local _ .vmem, ⟨0, _⟩ => ⟨S8x1024x64, .f32⟩
  | .local _ .vmem, ⟨1, _⟩ => ⟨S8x1024x64, .bf16⟩
  | .local _ .vmem, ⟨2, _⟩ => ⟨S8x1024x192, .bf16⟩
  | .local _ .vmem, ⟨3, _⟩ => ⟨S1x64x2048, .f32⟩
  | .local _ .vmem, ⟨4, _⟩ => ⟨S1x64x2048, .f32⟩
  | .local _ .vmem, ⟨5, _⟩ => ⟨S8x1024x64, .bf16⟩
  | .local _ .vmem, ⟨6, _⟩ => ⟨S8x1024x192, .bf16⟩
  | .local _ .vmem, ⟨7, _⟩ => ⟨S8x1024, .f32⟩
  | .local _ .vmem, ⟨8, _⟩ => ⟨S1x64x2048, .f32⟩
  | .local _ .vmem, ⟨9, _⟩ => ⟨S1x64x2048, .f32⟩
  | _, _ => ⟨S4x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := .none

abbrev stage0_0 : Fin 1 → Memref sig .tc .vmem S8x1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![4, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8x1024x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S8x1024x192 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S8x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x64x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== ReferenceIdeal.lean ====
abbrev S4x64x4096 : Shape := ⟨3, ![4, 64, 4096]⟩
abbrev S8x1024x64 : Shape := ⟨3, ![8, 1024, 64]⟩
abbrev S4x4096x64 : Shape := ⟨3, ![4, 4096, 64]⟩
abbrev S16384x64 : Shape := ⟨2, ![16384, 64]⟩
abbrev S_ : Shape := ⟨0, ![]⟩
abbrev S1x1024x64 : Shape := ⟨3, ![1, 1024, 64]⟩
abbrev S1024x64 : Shape := ⟨2, ![1024, 64]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩

abbrev nBuf : Space → Nat
  | .hbm => 80
  | .vmem => 0
  | .smem => 0
  | _ => 0

abbrev bufTy : (tb : Table) → Fin (tcTables nBuf tb) → BufTy
  | .hbm, ⟨0, _⟩ => ⟨S4x64x4096, .f32⟩
  | .hbm, ⟨1, _⟩ => ⟨S8x1024x64, .f32⟩
  | .hbm, ⟨2, _⟩ => ⟨S4x4096x64, .f32⟩
  | .hbm, ⟨3, _⟩ => ⟨S16384x64, .f32⟩
  | .hbm, ⟨4, _⟩ => ⟨S_, .f32⟩
  | .hbm, ⟨5, _⟩ => ⟨S16384x64, .f32⟩
  | .hbm, ⟨6, _⟩ => ⟨S_, .i32⟩
  | .hbm, ⟨7, _⟩ => ⟨S_, .i32⟩
  | .hbm, ⟨8, _⟩ => ⟨S8x1024x64, .f32⟩
  | .hbm, ⟨9, _⟩ => ⟨S_, .i32⟩
  | .hbm, ⟨10, _⟩ => ⟨S_, .i32⟩
  | .hbm, ⟨11, _⟩ => ⟨S16384x64, .f32⟩
  | .hbm, ⟨12, _⟩ => ⟨S16384x64, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1x1024x64, .f32⟩
  | .hbm, ⟨26, _⟩ => ⟨S1024x64, .f32⟩
  | .hbm, ⟨27, _⟩ => ⟨S16384x64, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S64x1024, .f32⟩
  | .hbm, ⟨32, _⟩ => ⟨S16384x1024, .f32⟩
  | .hbm, ⟨33, _⟩ => ⟨S_, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1024x64, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S16384x1024, .i32⟩
  | .hbm, ⟨45, _⟩ => ⟨S_, .f32⟩
  | .hbm, ⟨46, _⟩ => ⟨S_, .i32⟩
  | .hbm, ⟨47, _⟩ => ⟨S16384, .f32⟩
  | .hbm, ⟨48, _⟩ => ⟨S16384, .i32⟩
  | .hbm, ⟨49, _⟩ => ⟨S_, .i32⟩
  | .hbm, ⟨50, _⟩ => ⟨S16384, .i32⟩
  | .hbm, ⟨51, _⟩ => ⟨S16384, .i1⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S16384, .i32⟩
  | .hbm, ⟨56, _⟩ => ⟨S16384x1, .i32⟩
  | .hbm, ⟨57, _⟩ => ⟨S1, .i32⟩
  | .hbm, ⟨58, _⟩ => ⟨S_, .i32⟩
  | .hbm, ⟨59, _⟩ => ⟨S16384x1, .i32⟩
  | .hbm, ⟨60, _⟩ => ⟨S16384x1, .i1⟩
  | .hbm, ⟨61, _⟩ => ⟨S1x1, .i32⟩
  | .hbm, ⟨62, _⟩ => ⟨S16384x1, .i32⟩
  | .hbm, ⟨63, _⟩ => ⟨S16384x1, .i1⟩
  | .hbm, ⟨64, _⟩ => ⟨S16384x1, .i1⟩
  | .hbm, ⟨65, _⟩ => ⟨S_, .i1⟩
  | .hbm, ⟨66, _⟩ => ⟨S16384, .i1⟩
  | .hbm, ⟨67, _⟩ => ⟨S16384x64, .f32⟩
  | .hbm, ⟨68, _⟩ => ⟨S16384x64, .i1⟩
  | .hbm, ⟨69, _⟩ => ⟨S_, .f32⟩
  | .hbm, ⟨70, _⟩ => ⟨S16384x64, .f32⟩
  | .hbm, ⟨71, _⟩ => ⟨S16384x64, .f32⟩
  | .hbm, ⟨72, _⟩ => ⟨S16384x64, .f32⟩
  | .hbm, ⟨73, _⟩ => ⟨S16384x64, .f32⟩
  | .hbm, ⟨74, _⟩ => ⟨S16384x64, .f32⟩
  | .hbm, ⟨75, _⟩ => ⟨S16384x64, .f32⟩
  | .hbm, ⟨76, _⟩ => ⟨S_, .i32⟩
  | .hbm, ⟨77, _⟩ => ⟨S_, .i32⟩
  | .hbm, ⟨78, _⟩ => ⟨S4x4096x64, .f32⟩
  | .hbm, ⟨79, _⟩ => ⟨S4x64x4096, .f32⟩
  | _, _ => ⟨S4x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_while0c_c_5 : Ref sig .tc := ⟨.hbm, 13, rfl⟩
abbrev main_while0c_v6 : Ref sig .tc := ⟨.hbm, 14, rfl⟩
abbrev main_while0b_c_5 : Ref sig .tc := ⟨.hbm, 15, rfl⟩
abbrev main_while0b_v6 : Ref sig .tc := ⟨.hbm, 16, rfl⟩
abbrev main_while0b_call0_c : Ref sig .tc := ⟨.hbm, 17, rfl⟩
abbrev main_while0b_call0_v0 : Ref sig .tc := ⟨.hbm, 18, rfl⟩
abbrev main_while0b_call0_v1 : Ref sig .tc := ⟨.hbm, 19, rfl⟩
abbrev main_while0b_call0_c_0 : Ref sig .tc := ⟨.hbm, 20, rfl⟩
abbrev main_while0b_call0_v2 : Ref sig .tc := ⟨.hbm, 21, rfl⟩
abbrev main_while0b_call0_v3 : Ref sig .tc := ⟨.hbm, 22, rfl⟩
abbrev main_while0b_call0_c_1 : Ref sig .tc := ⟨.hbm, 23, rfl⟩
abbrev main_while0b_call0_c_2 : Ref sig .tc := ⟨.hbm, 24, rfl⟩
abbrev main_while0b_call0_v4 : Ref sig .tc := ⟨.hbm, 25, rfl⟩
abbrev main_while0b_v7 : Ref sig .tc := ⟨.hbm, 26, rfl⟩
abbrev main_while0b_v8 : Ref sig .tc := ⟨.hbm, 27, rfl⟩
abbrev main_while0b_cst_6 : Ref sig .tc := ⟨.hbm, 28, rfl⟩
abbrev main_while0b_v9 : Ref sig .tc := ⟨.hbm, 29, rfl⟩
abbrev main_while0b_v10 : Ref sig .tc := ⟨.hbm, 30, rfl⟩
abbrev main_while0b_v11 : Ref sig .tc := ⟨.hbm, 31, rfl⟩
abbrev main_while0b_v12 : Ref sig .tc := ⟨.hbm, 32, rfl⟩
abbrev main_while0b_cst_7 : Ref sig .tc := ⟨.hbm, 33, rfl⟩
abbrev main_while0b_v13 : Ref sig .tc := ⟨.hbm, 34, rfl⟩
abbrev main_while0b_v14 : Ref sig .tc := ⟨.hbm, 35, rfl⟩
abbrev main_while0b_v15 : Ref sig .tc := ⟨.hbm, 36, rfl⟩
abbrev main_while0b_v16 : Ref sig .tc := ⟨.hbm, 37, rfl⟩
abbrev main_while0b_v17 : Ref sig .tc := ⟨.hbm, 38, rfl⟩
abbrev main_while0b_cst_8 : Ref sig .tc := ⟨.hbm, 39, rfl⟩
abbrev main_while0b_v18 : Ref sig .tc := ⟨.hbm, 40, rfl⟩
abbrev main_while0b_v19 : Ref sig .tc := ⟨.hbm, 41, rfl⟩
abbrev main_while0b_v20 : Ref sig .tc := ⟨.hbm, 42, rfl⟩
abbrev main_while0b_v21 : Ref sig .tc := ⟨.hbm, 43, rfl⟩
abbrev main_while0b_call1_v0 : Ref sig .tc := ⟨.hbm, 44, rfl⟩
abbrev main_while0b_call1_cst : Ref sig .tc := ⟨.hbm, 45, rfl⟩
abbrev main_while0b_call1_c : Ref sig .tc := ⟨.hbm, 46, rfl⟩
abbrev main_while0b_call1_v1_0 : Ref sig .tc := ⟨.hbm, 47, rfl⟩
abbrev main_while0b_v22 : Ref sig .tc := ⟨.hbm, 48, rfl⟩
abbrev main_while0b_call2_c : Ref sig .tc := ⟨.hbm, 49, rfl⟩
abbrev main_while0b_call2_v0 : Ref sig .tc := ⟨.hbm, 50, rfl⟩
abbrev main_while0b_call2_v1 : Ref sig .tc := ⟨.hbm, 51, rfl⟩
abbrev main_while0b_call2_c_0 : Ref sig .tc := ⟨.hbm, 52, rfl⟩
abbrev main_while0b_call2_v2 : Ref sig .tc := ⟨.hbm, 53, rfl⟩
abbrev main_while0b_call2_v3 : Ref sig .tc := ⟨.hbm, 54, rfl⟩
abbrev main_while0b_call2_v4 : Ref sig .tc := ⟨.hbm, 55, rfl⟩
abbrev main_while0b_call2_v5 : Ref sig .tc := ⟨.hbm, 56, rfl⟩
abbrev main_while0b_call2_c_1 : Ref sig .tc := ⟨.hbm, 57, rfl⟩
abbrev main_while0b_call2_c_2 : Ref sig .tc := ⟨.hbm, 58, rfl⟩
abbrev main_while0b_call2_v6 : Ref sig .tc := ⟨.hbm, 59, rfl⟩
abbrev main_while0b_call2_v7 : Ref sig .tc := ⟨.hbm, 60, rfl⟩
abbrev main_while0b_call2_v8 : Ref sig .tc := ⟨.hbm, 61, rfl⟩
abbrev main_while0b_call2_v9 : Ref sig .tc := ⟨.hbm, 62, rfl⟩
abbrev main_while0b_call2_v10 : Ref sig .tc := ⟨.hbm, 63, rfl⟩
abbrev main_while0b_call2_v11 : Ref sig .tc := ⟨.hbm, 64, rfl⟩
abbrev main_while0b_call2_c_3 : Ref sig .tc := ⟨.hbm, 65, rfl⟩
abbrev main_while0b_call2_v12 : Ref sig .tc := ⟨.hbm, 66, rfl⟩
abbrev main_while0b_call2_v13 : Ref sig .tc := ⟨.hbm, 67, rfl⟩
abbrev main_while0b_call2_v14 : Ref sig .tc := ⟨.hbm, 68, rfl⟩
abbrev main_while0b_call2_cst : Ref sig .tc := ⟨.hbm, 69, rfl⟩
abbrev main_while0b_call2_v15 : Ref sig .tc := ⟨.hbm, 70, rfl⟩
abbrev main_while0b_v23 : Ref sig .tc := ⟨.hbm, 71, rfl⟩
abbrev main_while0b_v24 : Ref sig .tc := ⟨.hbm, 72, rfl⟩
abbrev main_while0b_v25 : Ref sig .tc := ⟨.hbm, 73, rfl⟩
abbrev main_while0b_v26 : Ref sig .tc := ⟨.hbm, 74, rfl⟩
abbrev main_while0b_v27 : Ref sig .tc := ⟨.hbm, 75, rfl⟩
abbrev main_while0b_c_9 : Ref sig .tc := ⟨.hbm, 76, rfl⟩
abbrev main_while0b_v28 : Ref sig .tc := ⟨.hbm, 77, rfl⟩
abbrev main_v4 : Ref sig .tc := ⟨.hbm, 78, rfl⟩
abbrev main_v5 : Ref sig .tc := ⟨.hbm, 79, rfl⟩

abbrev nD : Nat := 1
abbrev τ : Topo := Topo.v7x

variable {F : FTy → Type} [FloatOps F]

abbrev main_while0_count : Scf.Loop 32 := ⟨0#32, 8#32, 1#32⟩
-- ==== Proof.KernelStage.lean ====
/-
  One stage of the kernel body on a block of 2048 tokens, as named vector functions: the distances of every token to
  every code, the one-hot mask of the first nearest code, and the code read back through the mask. Each block value
  between two stages is one of these functions.
-/
module

public import proofs.«01_k».proof.Proof.Gen.KernelIdeal.Skeleton

@[expose] public section

noncomputable section

namespace Cert.Proof.Rvq

open Idealize.ShloMosaic Cert.KernelIdeal Cert.KernelIdeal.Gen

variable {F : FTy → Type} [FloatOps F]

/-- The numbers 0 to 1023 along each row. -/
def kIota : IVec S2048x1024 32 := iota .tc S2048x1024 32 [1] iota_S2048x1024_d1_w32

/-- The distances as the kernel forms them: `(|r|² + r · c1) + c3`. -/
def kDist (c1 : FVec F S1024x64 .bf16) (c3 : FVec F S1024 .f32) (r : FVec F S64x2048 .f32) : FVec F S2048x1024 .f32 :=
  addf (addf (broadcastTo S2048x1024 (shapeCast S2048x1
      (multiReduction .add [0] S2048 (mulf r r) 0x00000000#32 reduces_S64x2048_S2048 (.inl rfl) rfl)
      shapeCasts_S2048_S2048x1) broadcasts_S2048x1_S2048x1024)
    (matmul dot_S64x2048_S1024x64_S2048x1024_0_1_1_0_n_n none (truncf .bf16 r bitsLt_bf16_f32) c1
      (constant S2048x1024 .f32 0x00000000#32)))
    (broadcastTo S2048x1024 (shapeCast S1x1024 c3 shapeCasts_S1024_S1x1024) broadcasts_S1x1024_S2048x1024)

/-- The least distance of each token. -/
def kMin (D : FVec F S2048x1024 .f32) : FVec F S2048 .f32 :=
  multiReduction .minimumf [1] S2048 D 0x7F800000#32 reduces_S2048x1024_S2048 (.inl rfl) rfl

/-- The number of the first code at the least distance. -/
def kIndex (D : FVec F S2048x1024 .f32) : IVec S2048 32 :=
  multiReductionI .minsi [1] S2048
    (select (cmpf .oeq D (broadcastTo S2048x1024 (shapeCast S2048x1 (kMin D) shapeCasts_S2048_S2048x1)
      broadcasts_S2048x1_S2048x1024)) kIota (broadcast S2048x1024 1024#32))
    2147483647#32 reduces_S2048x1024_S2048 rfl

/-- The mask that is one at each token's code and zero elsewhere, as bits. -/
def kMask (D : FVec F S2048x1024 .f32) : IVec S2048x1024 1 :=
  cmpi .eq kIota (broadcastTo S2048x1024 (shapeCast S2048x1 (kIndex D) shapeCasts_S2048_S2048x1)
    broadcasts_S2048x1_S2048x1024)

/-- The three parts of the packed codes read through a mask. -/
def kParts (c2 : FVec F S1024x192 .bf16) (M : IVec S2048x1024 1) : FVec F S192x2048 .f32 :=
  matmul dot_S1024x192_S2048x1024_S192x2048_0_1_1_0_n_n none c2
    (truncf .bf16 (sitofp .f32 (extui 32 M natLt_1_32)) bitsLt_bf16_f32) (constant S192x2048 .f32 0x00000000#32)

/-- The three parts summed. -/
def kSum (P : FVec F S192x2048 .f32) : FVec F S64x2048 .f32 :=
  addf (addf (extractStridedSlice S64x2048 ![0, 0] P slices_S192x2048_o0_0_S64x2048)
    (extractStridedSlice S64x2048 ![64, 0] P slices_S192x2048_o64_0_S64x2048))
    (extractStridedSlice S64x2048 ![128, 0] P slices_S192x2048_o128_0_S64x2048)

/-- The code of a mask less the residual. -/
def kDiff (c2 : FVec F S1024x192 .bf16) (M : IVec S2048x1024 1) (r : FVec F S64x2048 .f32) : FVec F S64x2048 .f32 :=
  subf (kSum (kParts c2 M)) r

/-- The mask of one stage from that stage's slices of the doubled codes and the squared norms. -/
def kHot (l1 : Vec F S1x1024x64 .bf16) (l3 : Vec F S1x1024 .f32) (r : FVec F S64x2048 .f32) : IVec S2048x1024 1 :=
  kMask (kDist (shapeCast S1024x64 l1 shapeCasts_S1x1024x64_S1024x64) (shapeCast S1024 l3 shapeCasts_S1x1024_S1024) r)

/-- What one stage adds to the result: `r + (q - r)`, `q` the chosen code of each token. -/
def kStage (l1 : Vec F S1x1024x64 .bf16) (l2 : Vec F S1x1024x192 .bf16) (l3 : Vec F S1x1024 .f32)
    (r : FVec F S64x2048 .f32) : FVec F S64x2048 .f32 :=
  addf r (kDiff (shapeCast S1024x192 l2 shapeCasts_S1x1024x192_S1024x192) (kHot l1 l3 r) r)

/-! ## The body's values are these functions -/

/-- Stage 0, up to its last addition. -/
theorem pay4_eq (x : Vec F S1x64x2048 .f32) (l1 : Vec F S1x1024x64 .bf16) (l2 : Vec F S1x1024x192 .bf16)
    (l3 : Vec F S1x1024 .f32) : k1_pay4 x l1 l2 l3
      = kDiff (shapeCast S1024x192 l2 shapeCasts_S1x1024x192_S1024x192) (kHot l1 l3 (k1_pay2 x)) (k1_pay2 x) := rfl

/-- Stage 1. -/
theorem pay7_eq (v d : FVec F S64x2048 .f32) (l1 : Vec F S1x1024x64 .bf16) (l2 : Vec F S1x1024x192 .bf16)
    (l3 : Vec F S1x1024 .f32) : k1_pay7 v kIota d l1 l2 l3 = kStage l1 l2 l3 (k1_pay6 v d) := rfl

/-- Stage 2. -/
theorem pay10_eq (r : FVec F S64x2048 .f32) (l1 : Vec F S1x1024x64 .bf16) (l2 : Vec F S1x1024x192 .bf16)
    (l3 : Vec F S1x1024 .f32) : k1_pay10 kIota r l1 l2 l3 = kStage l1 l2 l3 r := rfl

/-- Stage 3. -/
theorem pay15_eq (r : FVec F S64x2048 .f32) (l1 : Vec F S1x1024x64 .bf16) (l2 : Vec F S1x1024x192 .bf16)
    (l3 : Vec F S1x1024 .f32) : k1_pay15 kIota r (k1_pay13 l1) (k1_pay14 l2) l3 = kStage l1 l2 l3 r := rfl

/-- Stage 4, its squared norms and its left factor formed before. -/
theorem pay23_eq (r : FVec F S64x2048 .f32) (l1 : Vec F S1x1024x64 .bf16) (l2 : Vec F S1x1024x192 .bf16)
    (l3 : Vec F S1x1024 .f32) : k1_pay23 kIota r (k1_pay18 l1) (k1_pay19 l2) (k1_pay20 l3)
      (multiReduction .add [0] S2048 (mulf r r) 0x00000000#32 reduces_S64x2048_S2048 (.inl rfl) rfl)
      (truncf .bf16 r bitsLt_bf16_f32) = kStage l1 l2 l3 r := rfl

/-- Stage 5, its distances formed before. -/
theorem pay29_eq (v r : FVec F S64x2048 .f32) (v1 : FVec F S1024x64 .bf16) (v2 : FVec F S1024x192 .bf16)
    (v3 : FVec F S1024 .f32) (n : FVec F S2048 .f32) (b : FVec F S64x2048 .bf16) (hr : k1_pay24 kIota v v1 v2 v3 n b = r)
    (l1 : Vec F S1x1024x64 .bf16) (l2 : Vec F S1x1024x192 .bf16) (l3 : Vec F S1x1024 .f32) :
    k1_pay29 kIota r (k1_pay26 l2) (k1_pay27 kIota v v1 v2 v3 n b l1) (k1_pay28 l3) = kStage l1 l2 l3 r := by
  subst hr; rfl

/-- Stage 6, its comparison with the least distance formed before. -/
theorem pay34_eq (v r : FVec F S64x2048 .f32) (v2 : FVec F S1024x192 .bf16) (a b : FVec F S2048x1024 .f32)
    (hr : k1_pay30 kIota v v2 a b = r)
    (l1 : Vec F S1x1024x64 .bf16) (l2 : Vec F S1x1024x192 .bf16) (l3 : Vec F S1x1024 .f32) :
    k1_pay34 kIota r (k1_pay32 l2) (k1_pay33 kIota v v2 a b l1 l3) 1024#32 = kStage l1 l2 l3 r := by
  subst hr; rfl

/-- Stage 7's mask. -/
theorem pay38_eq (v r : FVec F S64x2048 .f32) (v2 : FVec F S1024x192 .bf16) (c : IVec S2048x1024 1)
    (hr : k1_pay35 kIota v v2 c 1024#32 = r) (l1 : Vec F S1x1024x64 .bf16) (l3 : Vec F S1x1024 .f32) :
    k1_pay38 kIota v v2 c 1024#32 l1 l3 = kHot l1 l3 r := by
  subst hr; rfl

/-- Stage 7 and the store: the result so far plus the last code, as a block. -/
theorem pay1_eq (r s : FVec F S64x2048 .f32) (l1 : Vec F S1x1024x64 .bf16) (l2 : Vec F S1x1024x192 .bf16)
    (l3 : Vec F S1x1024 .f32) : k1_pay1 r s (k1_pay37 l2) (kHot l1 l3 r)
      = shapeCast S1x64x2048 (addf s (kStage l1 l2 l3 r)) shapeCasts_S64x2048_S1x64x2048 := rfl

end Cert.Proof.Rvq

end
-- ==== Proof.KernelBlock.lean ====
/-
  What the body of the quantization kernel leaves in its output block: eight stages, one after the other, from the
  block's tokens and a zero result.
-/
module

public import proofs.«01_k».proof.Proof.KernelStage
public import proofs.«01_k».proof.Proof.Gen.KernelIdeal.Frame
public import Idealize.ShloMosaic.Lib.Pipeline.Value

@[expose] public section

noncomputable section

namespace Cert.Proof.Rvq

open Idealize.ShloMosaic Cert.KernelIdeal Cert.KernelIdeal.Gen

variable {F : FTy → Type} [FloatOps F]

/-- Codebook `n` of the eight, as a rectangle of the doubled codes. -/
abbrev slice1 (n : ℕ) (h : n + 1 ≤ 8) : Rect S8x1024x64 :=
  Rect.unit (s := S8x1024x64) ![n, 0, 0] S1x1024x64.size (fun | 0 => h | 1 => le_rfl | 2 => le_rfl)

/-- Codebook `n` of the eight, as a rectangle of the packed codes. -/
abbrev slice2 (n : ℕ) (h : n + 1 ≤ 8) : Rect S8x1024x192 :=
  Rect.unit (s := S8x1024x192) ![n, 0, 0] S1x1024x192.size (fun | 0 => h | 1 => le_rfl | 2 => le_rfl)

/-- Codebook `n` of the eight, as a rectangle of the squared norms. -/
abbrev slice3 (n : ℕ) (h : n + 1 ≤ 8) : Rect S8x1024 :=
  Rect.unit (s := S8x1024) ![n, 0] S1x1024.size (fun | 0 => h | 1 => le_rfl)

section

variable (x0 : Vec F S1x64x2048 .f32) (x1 : Vec F S8x1024x64 .bf16) (x2 : Vec F S8x1024x192 .bf16) (x3 : Vec F S8x1024 .f32)

/-- What stage `n` adds to the result, from the residual `r` before it. -/
def kCode (n : ℕ) (h : n + 1 ≤ 8) (r : FVec F S64x2048 .f32) : FVec F S64x2048 .f32 :=
  kStage (View.ld x1 (slice1 n h)) (View.ld x2 (slice2 n h)) (View.ld x3 (slice3 n h)) r

/-- The block's residual after `n` stages. -/
def kRes : (n : ℕ) → n ≤ 8 → FVec F S64x2048 .f32
  | 0, _ => k1_pay2 (View.ld x0 r1_0)
  | n + 1, h => subf (kRes n (Nat.le_of_succ_le h)) (kCode x1 x2 x3 n h (kRes n (Nat.le_of_succ_le h)))

/-- The block's result after `n` stages. -/
def kAcc : (n : ℕ) → n ≤ 8 → FVec F S64x2048 .f32
  | 0, _ => k1_pay3
  | n + 1, h => addf (kAcc n (Nat.le_of_succ_le h)) (kCode x1 x2 x3 n h (kRes x0 x1 x2 x3 n (Nat.le_of_succ_le h)))

/-- What the body binds for stage 0 is the code less the block's tokens. -/
theorem pay5_res : k1_pay5 (k1_pay40 x0 x1 x2 x3) (k1_pay41 x0 x1 x2 x3)
    = kCode x1 x2 x3 0 (by decide) (kRes x0 x1 x2 x3 0 (by decide)) :=
  congrArg (addf (k1_pay2 (View.ld x0 r1_0)))
    (pay4_eq (View.ld x0 r1_0) (View.ld x1 r1_1) (View.ld x2 r1_2) (View.ld x3 r1_3))

/-- The residual after stage 0. -/
theorem pay6_res : k1_pay6 (k1_pay40 x0 x1 x2 x3) (k1_pay41 x0 x1 x2 x3) = kRes x0 x1 x2 x3 1 (by decide) :=
  congrArg (subf (k1_pay2 (View.ld x0 r1_0))) (pay5_res x0 x1 x2 x3)

/-- What stage 1 adds. -/
theorem pay7_res : k1_pay7 (k1_pay40 x0 x1 x2 x3) (k1_pay39 x0 x1 x2 x3) (k1_pay41 x0 x1 x2 x3) (View.ld x1 r1_4)
    (View.ld x2 r1_5) (View.ld x3 r1_6) = kCode x1 x2 x3 1 (by decide) (kRes x0 x1 x2 x3 1 (by decide)) :=
  (pay7_eq _ _ _ _ _).trans (congrArg (kStage _ _ _) (pay6_res x0 x1 x2 x3))

/-- The residual after stage 1. -/
theorem pay42_res : k1_pay42 x0 x1 x2 x3 = kRes x0 x1 x2 x3 2 (by decide) :=
  congrArg₂ subf (pay6_res x0 x1 x2 x3) (pay7_res x0 x1 x2 x3)

/-- The result after stages 0 and 1. -/
theorem pay9_acc : k1_pay9 (k1_pay40 x0 x1 x2 x3) (k1_pay3 (F := F)) (k1_pay39 x0 x1 x2 x3) (k1_pay41 x0 x1 x2 x3)
    (View.ld x1 r1_4) (View.ld x2 r1_5) (View.ld x3 r1_6) = kAcc x0 x1 x2 x3 2 (by decide) :=
  congrArg₂ addf (congrArg (addf (k1_pay3 (F := F))) (pay5_res x0 x1 x2 x3)) (pay7_res x0 x1 x2 x3)

/-- What stage 2 adds. -/
theorem pay10_res : k1_pay10 (k1_pay39 x0 x1 x2 x3) (k1_pay42 x0 x1 x2 x3) (View.ld x1 r1_7) (View.ld x2 r1_8) (View.ld x3 r1_9)
    = kCode x1 x2 x3 2 (by decide) (kRes x0 x1 x2 x3 2 (by decide)) :=
  (pay10_eq _ _ _ _).trans (congrArg (kStage _ _ _) (pay42_res x0 x1 x2 x3))

/-- The residual after stage 2. -/
theorem pay43_res : k1_pay43 x0 x1 x2 x3 = kRes x0 x1 x2 x3 3 (by decide) :=
  congrArg₂ subf (pay42_res x0 x1 x2 x3) (pay10_res x0 x1 x2 x3)

/-- What stage 3 adds. -/
theorem pay15_res : k1_pay15 (k1_pay39 x0 x1 x2 x3) (k1_pay43 x0 x1 x2 x3) (k1_pay44 x0 x1 x2 x3) (k1_pay45 x0 x1 x2 x3)
    (View.ld x3 r1_12) = kCode x1 x2 x3 3 (by decide) (kRes x0 x1 x2 x3 3 (by decide)) :=
  (pay15_eq _ _ _ _).trans (congrArg (kStage _ _ _) (pay43_res x0 x1 x2 x3))

/-- The residual after stage 3. -/
theorem pay46_res : k1_pay46 x0 x1 x2 x3 = kRes x0 x1 x2 x3 4 (by decide) :=
  congrArg₂ subf (pay43_res x0 x1 x2 x3) (pay15_res x0 x1 x2 x3)

/-- What stage 4 adds. -/
theorem pay23_res : k1_pay23 (k1_pay39 x0 x1 x2 x3) (k1_pay46 x0 x1 x2 x3) (k1_pay47 x0 x1 x2 x3) (k1_pay48 x0 x1 x2 x3)
    (k1_pay49 x0 x1 x2 x3) (k1_pay50 x0 x1 x2 x3) (k1_pay51 x0 x1 x2 x3)
    = kCode x1 x2 x3 4 (by decide) (kRes x0 x1 x2 x3 4 (by decide)) :=
  (pay23_eq _ _ _ _).trans (congrArg (kStage _ _ _) (pay46_res x0 x1 x2 x3))

/-- The residual after stage 4. -/
theorem pay52_res : k1_pay52 x0 x1 x2 x3 = kRes x0 x1 x2 x3 5 (by decide) :=
  congrArg₂ subf (pay46_res x0 x1 x2 x3) (pay23_res x0 x1 x2 x3)

/-- What stage 5 adds. -/
theorem pay29_res : k1_pay29 (k1_pay39 x0 x1 x2 x3) (k1_pay52 x0 x1 x2 x3) (k1_pay53 x0 x1 x2 x3) (k1_pay54 x0 x1 x2 x3)
    (k1_pay55 x0 x1 x2 x3) = kCode x1 x2 x3 5 (by decide) (kRes x0 x1 x2 x3 5 (by decide)) :=
  (pay29_eq _ _ _ _ _ _ _ rfl _ _ _).trans (congrArg (kStage _ _ _) (pay52_res x0 x1 x2 x3))

/-- The residual after stage 5. -/
theorem pay56_res : k1_pay56 x0 x1 x2 x3 = kRes x0 x1 x2 x3 6 (by decide) :=
  congrArg₂ subf (pay52_res x0 x1 x2 x3) (pay29_res x0 x1 x2 x3)

/-- What stage 6 adds. -/
theorem pay34_res : k1_pay34 (k1_pay39 x0 x1 x2 x3) (k1_pay56 x0 x1 x2 x3) (k1_pay57 x0 x1 x2 x3) (k1_pay58 x0 x1 x2 x3) 1024#32
    = kCode x1 x2 x3 6 (by decide) (kRes x0 x1 x2 x3 6 (by decide)) :=
  (pay34_eq _ _ _ _ _ rfl _ _ _).trans (congrArg (kStage _ _ _) (pay56_res x0 x1 x2 x3))

/-- The residual after stage 6. -/
theorem pay35_res : k1_pay35 (k1_pay39 x0 x1 x2 x3) (k1_pay56 x0 x1 x2 x3) (k1_pay57 x0 x1 x2 x3) (k1_pay58 x0 x1 x2 x3) 1024#32
    = kRes x0 x1 x2 x3 7 (by decide) :=
  congrArg₂ subf (pay56_res x0 x1 x2 x3) (pay34_res x0 x1 x2 x3)

/-- The mask of stage 7. -/
theorem pay38_res : k1_pay38 (k1_pay39 x0 x1 x2 x3) (k1_pay56 x0 x1 x2 x3) (k1_pay57 x0 x1 x2 x3) (k1_pay58 x0 x1 x2 x3) 1024#32
    (View.ld x1 r1_22) (View.ld x3 r1_24)
    = kHot (View.ld x1 (slice1 7 (by decide))) (View.ld x3 (slice3 7 (by decide))) (kRes x0 x1 x2 x3 7 (by decide)) :=
  pay38_eq _ _ _ _ (pay35_res x0 x1 x2 x3) _ _

/-- The result after stages 0 to 6. -/
theorem pay36_acc : k1_pay36 (k1_pay39 x0 x1 x2 x3) (k1_pay56 x0 x1 x2 x3) (k1_pay31 (k1_pay39 x0 x1 x2 x3) (k1_pay52 x0 x1 x2 x3)
      (k1_pay25 (k1_pay39 x0 x1 x2 x3) (k1_pay46 x0 x1 x2 x3) (k1_pay17 (k1_pay39 x0 x1 x2 x3) (k1_pay43 x0 x1 x2 x3)
        (k1_pay12 (k1_pay39 x0 x1 x2 x3) (k1_pay42 x0 x1 x2 x3) (k1_pay9 (k1_pay40 x0 x1 x2 x3) (k1_pay3 (F := F))
          (k1_pay39 x0 x1 x2 x3) (k1_pay41 x0 x1 x2 x3) (View.ld x1 r1_4) (View.ld x2 r1_5) (View.ld x3 r1_6))
          (View.ld x1 r1_7) (View.ld x2 r1_8) (View.ld x3 r1_9))
        (k1_pay44 x0 x1 x2 x3) (k1_pay45 x0 x1 x2 x3) (View.ld x3 r1_12))
      (k1_pay47 x0 x1 x2 x3) (k1_pay48 x0 x1 x2 x3) (k1_pay49 x0 x1 x2 x3) (k1_pay50 x0 x1 x2 x3) (k1_pay51 x0 x1 x2 x3))
    (k1_pay53 x0 x1 x2 x3) (k1_pay54 x0 x1 x2 x3) (k1_pay55 x0 x1 x2 x3)) (k1_pay57 x0 x1 x2 x3) (k1_pay58 x0 x1 x2 x3) 1024#32
    = kAcc x0 x1 x2 x3 7 (by decide) :=
  congrArg₂ addf (congrArg₂ addf (congrArg₂ addf (congrArg₂ addf (congrArg₂ addf (pay9_acc x0 x1 x2 x3)
    (pay10_res x0 x1 x2 x3)) (pay15_res x0 x1 x2 x3)) (pay23_res x0 x1 x2 x3)) (pay29_res x0 x1 x2 x3)) (pay34_res x0 x1 x2 x3)

/-- The output block after the body is the result after eight stages. -/
theorem out1_4_eq : out1_4 x0 x1 x2 x3
    = shapeCast S1x64x2048 (kAcc x0 x1 x2 x3 8 le_rfl) shapeCasts_S64x2048_S1x64x2048 := by
  unfold out1_4
  rw [pay36_acc, pay38_res, pay35_res, pay1_eq]
  exact View.canon_unit_zero (by decide) _ _

end

end Cert.Proof.Rvq

end
-- ==== Proof.Spec.lean ====
/-
  Residual vector quantization over the real numbers, for one token: the squared distance of a residual to every code of
  a codebook, the first nearest code, and eight stages of "take the nearest code, subtract it from the residual, add it
  to the result". The kernel and the reference are both read as this function. Below it, the facts on extended reals and
  on minima that both readings use.
-/
module

public import Idealize.ShloMosaic.PureOps
public import Idealize.ShloMosaic.PureOps.Ideal
public import Mathlib.Data.EReal.Operations
public import Mathlib.Data.Finset.Fold

@[expose] public section

noncomputable section

namespace Cert.Proof.Rvq

/-- A codebook: 1024 codes of 64 numbers. -/
abbrev Codebook := Fin 1024 → Fin 64 → ℝ

/-- The squared distance of `r` to code `k`, expanded: `|r|² - 2 r·c + |c|²`. -/
def dist (cb : Codebook) (r : Fin 64 → ℝ) (k : Fin 1024) : ℝ :=
  ((∑ d, r d * r d) - 2 * ∑ d, r d * cb k d) + ∑ d, cb k d * cb k d

/-- `k` is the first place where `f` is least. -/
def IsFirstMin {n : ℕ} (f : Fin n → ℝ) (k : Fin n) : Prop :=
  ∀ j, f k < f j ∨ (f k = f j ∧ k ≤ j)

/-- The first least place is unique. -/
theorem IsFirstMin.unique {n : ℕ} {f : Fin n → ℝ} {k l : Fin n} (hk : IsFirstMin f k) (hl : IsFirstMin f l) : k = l := by
  rcases hk l with h | ⟨h, h'⟩ <;> rcases hl k with g | ⟨g, g'⟩
  · exact absurd h (lt_asymm g)
  · exact absurd g.symm h.ne
  · exact absurd h.symm g.ne
  · exact le_antisymm h' g'

/-- A function on 1024 places has a first least place. -/
theorem exists_isFirstMin (f : Fin 1024 → ℝ) : ∃ k, IsFirstMin f k := by
  obtain ⟨m, -, hm⟩ := Finset.exists_min_image Finset.univ f ⟨0, Finset.mem_univ _⟩
  have hne : (Finset.univ.filter fun k => f k = f m).Nonempty := ⟨m, by simp⟩
  obtain ⟨k, hk, hk'⟩ := Finset.exists_min_image _ id hne
  have e : f k = f m := (Finset.mem_filter.mp hk).2
  refine ⟨k, fun j => ?_⟩
  rcases (hm j (Finset.mem_univ _)).lt_or_eq with h | h
  · exact .inl (e ▸ h)
  · exact .inr ⟨e.trans h, hk' j (Finset.mem_filter.mpr ⟨Finset.mem_univ _, h.symm⟩)⟩

/-- The first place where `f` is least. -/
def firstMin (f : Fin 1024 → ℝ) : Fin 1024 := (exists_isFirstMin f).choose

/-- `firstMin f` is the first least place of `f`. -/
theorem firstMin_spec (f : Fin 1024 → ℝ) : IsFirstMin f (firstMin f) := (exists_isFirstMin f).choose_spec

/-- The code of `cb` nearest to `r`, the first of them where several are. -/
def nearest (cb : Codebook) (r : Fin 64 → ℝ) : Fin 64 → ℝ := cb (firstMin (dist cb r))

/-- The residual and the running result of one token after `n` stages, from the token `x` and zero. -/
def state (C : Fin 8 → Codebook) (x : Fin 64 → ℝ) : (n : ℕ) → n ≤ 8 → (Fin 64 → ℝ) × (Fin 64 → ℝ)
  | 0, _ => (x, 0)
  | n + 1, h =>
    let s := state C x n (Nat.le_of_succ_le h)
    let c := nearest (C ⟨n, h⟩) s.1
    (s.1 - c, s.2 + c)

/-- One more stage subtracts the nearest code from the residual. -/
theorem state_succ_fst (C : Fin 8 → Codebook) (x : Fin 64 → ℝ) (n : ℕ) (h : n + 1 ≤ 8) (d : Fin 64) :
    (state C x (n + 1) h).1 d = (state C x n (Nat.le_of_succ_le h)).1 d
      - nearest (C ⟨n, h⟩) (state C x n (Nat.le_of_succ_le h)).1 d := rfl

/-- One more stage adds the nearest code to the result. -/
theorem state_succ_snd (C : Fin 8 → Codebook) (x : Fin 64 → ℝ) (n : ℕ) (h : n + 1 ≤ 8) (d : Fin 64) :
    (state C x (n + 1) h).2 d = (state C x n (Nat.le_of_succ_le h)).2 d
      + nearest (C ⟨n, h⟩) (state C x n (Nat.le_of_succ_le h)).1 d := rfl

/-! ## Extended reals that are numbers -/

/-- A finite sum of numbers, taken in the extended reals, is the sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The straight-through value `r + (q - r)` of two numbers is `q`. -/
theorem straight_through (r q : ℝ) : (r : EReal) + ((q : EReal) - (r : EReal)) = (q : EReal) := by
  rw [← EReal.coe_sub, ← EReal.coe_add]; congr 1; ring

/-- Of the extended reals other than the two infinities, each is a number. -/
theorem coe_toReal_of_abs_lt {x : EReal} (h : max x (-x) < ⊤) : ((x.toReal : ℝ) : EReal) = x := by
  refine EReal.coe_toReal (fun e => ?_) (fun e => ?_) <;> subst e <;> simp at h

/-! ## Least values -/

/-- A minimum over all places from a start that is no less than `f k`, where `f` is least at `k`, is `f k`. -/
theorem fold_min_eq {α : Type} [LinearOrder α] {n : ℕ} (f : Fin n → α) (b : α) (k : Fin n) (hb : f k ≤ b)
    (h : ∀ j, f k ≤ f j) : Finset.univ.fold min b f = f k :=
  le_antisymm ((Finset.fold_min_le _).mpr (.inr ⟨k, Finset.mem_univ _, le_rfl⟩))
    ((Finset.le_fold_min _).mpr ⟨hb, fun j _ => h j⟩)

/-! ## Patterns and words -/

open Idealize.ShloMosaic in
/-- The f32 pattern `0x7F800000` is infinity. -/
theorem ofBits_inf_f32 : Ideal.ofBits .f32 0x7F800000#32 = (⊤ : EReal) := by
  simp [Ideal.ofBits, Ideal.ieee]

open Idealize.ShloMosaic in
/-- The f32 pattern `0x40000000` is two. -/
theorem ofBits_two_f32 : Ideal.ofBits .f32 0x40000000#32 = ((2 : ℝ) : EReal) := by
  simp [Ideal.ofBits, Ideal.ieee, -EReal.coe_mul]; norm_num

/-- A number below 2048 as a 32-bit word is itself. -/
theorem toInt_ofNat_small (n : ℕ) (h : n < 2048) : (BitVec.ofNat 32 n).toInt = n := by
  rw [BitVec.toInt_eq_toNat_of_lt] <;> rw [BitVec.toNat_ofNat, Nat.mod_eq_of_lt] <;> omega

/-- Numbers below 1024 are told apart as 32-bit words. -/
theorem ofNat_inj (k l : Fin 1024) : BitVec.ofNat 32 (k : ℕ) = BitVec.ofNat 32 (l : ℕ) ↔ k = l := by
  refine ⟨fun h => ?_, fun h => h ▸ rfl⟩
  have := congrArg BitVec.toNat h
  rw [BitVec.toNat_ofNat, BitVec.toNat_ofNat, Nat.mod_eq_of_lt, Nat.mod_eq_of_lt] at this <;> omega

end Cert.Proof.Rvq

end
-- ==== Proof.KernelRead.lean ====
/-
  One stage of the kernel body read at a token and a coordinate, over the extended reals.
-/
module

public import proofs.«01_k».proof.Proof.Spec
public import proofs.«01_k».proof.Proof.KernelStage
public import Idealize.ShloMosaic.Lib.Pointwise
public import Idealize.ShloMosaic.Lib.ValueIdx

@[expose] public section

noncomputable section

namespace Cert.Proof.Rvq

open Idealize.ShloMosaic Idealize.ShloMosaic.Pointwise Cert.KernelIdeal Cert.KernelIdeal.Gen

/-- The distance of token `t` to code `k`, as the kernel sums it. -/
theorem kDist_apply (c1 : FVec Ideal S1024x64 .bf16) (c3 : FVec Ideal S1024 .f32) (r : FVec Ideal S64x2048 .f32)
    (t : Fin 2048) (k : Fin 1024) : kDist c1 c3 r (ix2 t k)
      = (((∑ d : Fin 64, r (ix2 d t) * r (ix2 d t)) + ∑ d : Fin 64, r (ix2 d t) * c1 (ix2 k d)) + c3 (ix1 k) : EReal) := by
  pointwise [kDist]

/-- The least distance of a token, a minimum from infinity. -/
theorem kMin_apply (D : FVec Ideal S2048x1024 .f32) (t : Fin 2048) :
    kMin D (ix1 t) = (Finset.univ : Finset (Fin 1024)).fold min (⊤ : EReal) (fun k => D (ix2 t k)) := by
  rw [← ofBits_inf_f32]
  pointwise [kMin]

/-- The number of a token's code: the least number among the codes at the least distance. -/
theorem kIndex_apply (D : FVec Ideal S2048x1024 .f32) (t : Fin 2048) :
    kIndex D (ix1 t) = (Finset.univ : Finset (Fin 1024)).fold IntOp.minsi 2147483647#32 (fun k =>
      (if D (ix2 t k) = kMin D (ix1 t) then BitVec.ofNat 32 k else 1024#32)) := by
  pointwise [kIndex, kIota]

/-- The mask is one at the token's code. -/
theorem kMask_apply (D : FVec Ideal S2048x1024 .f32) (t : Fin 2048) (k : Fin 1024) :
    kMask D (ix2 t k) = if kIndex D (ix1 t) = BitVec.ofNat 32 k then 1#1 else 0#1 := by
  pointwise [kMask, kIota]
  by_cases h : kIndex D (ix1 t) = BitVec.ofNat 32 k
  · rw [if_pos h, h]; exact congrArg BitVec.ofBool (beq_self_eq_true _)
  · rw [if_neg h]; exact congrArg BitVec.ofBool (beq_eq_false_iff_ne.mpr (Ne.symm h))

/-- A bit widened and read as a number. -/
theorem sitofp_bit (b : BitVec 1) :
    (FloatOps.sitofp (F := Ideal) .f32 (BitVec.setWidth 32 b) : EReal) = if b = 1#1 then 1 else 0 := by
  change (((BitVec.setWidth 32 b).toInt : ℝ) : EReal) = _
  have h : b = 0#1 ∨ b = 1#1 := by revert b; decide
  rcases h with rfl | rfl <;> simp

/-- A coordinate of the packed codes summed against the mask. -/
theorem kParts_apply (c2 : FVec Ideal S1024x192 .bf16) (M : IVec S2048x1024 1) (d : Fin 192) (t : Fin 2048) :
    kParts c2 M (ix2 d t) = (∑ k : Fin 1024, c2 (ix2 k d) * (if M (ix2 t k) = 1#1 then 1 else 0) : EReal) := by
  simp only [← sitofp_bit]
  pointwise [kParts]

/-- The three parts of a coordinate summed. -/
theorem kSum_apply (P : FVec Ideal S192x2048 .f32) (d : Fin 64) (t : Fin 2048) :
    kSum P (ix2 d t) = (P (ix2 ⟨d, by omega⟩ t) + P (ix2 ⟨64 + d, by omega⟩ t) + P (ix2 ⟨128 + d, by omega⟩ t) : EReal) := by
  pointwise [kSum]

/-! ## A stage on numbers -/

/-- The kernel's distances on numbers are the squared distances. -/
theorem kDist_coe (cb : Codebook) (R : Fin 64 → ℝ) (t : Fin 2048) (k : Fin 1024)
    (c1 : FVec Ideal S1024x64 .bf16) (c3 : FVec Ideal S1024 .f32) (r : FVec Ideal S64x2048 .f32)
    (h1 : ∀ k d, c1 (ix2 k d) = ((-2 * cb k d : ℝ) : EReal))
    (h3 : ∀ k, c3 (ix1 k) = ((∑ d, cb k d * cb k d : ℝ) : EReal))
    (hr : ∀ d, r (ix2 d t) = ((R d : ℝ) : EReal)) :
    kDist c1 c3 r (ix2 t k) = ((dist cb R k : ℝ) : EReal) := by
  rw [kDist_apply, h3]
  simp only [h1, hr, ← EReal.coe_mul, ← coe_sum, ← EReal.coe_add]
  congr 1
  simp only [dist, Finset.mul_sum, sub_eq_add_neg, ← Finset.sum_neg_distrib]
  congr 2
  exact Finset.sum_congr rfl fun d _ => by ring

/-- On distances that are numbers, the least of a token is the one at the first least place. -/
theorem kMin_coe (D : FVec Ideal S2048x1024 .f32) (t : Fin 2048) (f : Fin 1024 → ℝ)
    (hD : ∀ k, D (ix2 t k) = ((f k : ℝ) : EReal)) : kMin D (ix1 t) = ((f (firstMin f) : ℝ) : EReal) := by
  rw [kMin_apply]
  simp only [hD]
  refine fold_min_eq (fun k => ((f k : ℝ) : EReal)) ⊤ (firstMin f) le_top fun j => EReal.coe_le_coe_iff.mpr ?_
  rcases firstMin_spec f j with h | h
  · exact h.le
  · exact h.1.le

/-- A signed minimum of words from a start no less than `f k`, where `f` is least at `k`, is `f k`. -/
theorem fold_minsi_eq (f : Fin 1024 → BitVec 32) (b : BitVec 32) (k : Fin 1024) (hb : (f k).toInt ≤ b.toInt)
    (h : ∀ j, (f k).toInt ≤ (f j).toInt) : Finset.univ.fold IntOp.minsi b f = f k := by
  apply BitVec.eq_of_toInt_eq
  rw [← Finset.fold_hom (op' := min) (m := BitVec.toInt)
    (fun x y => by simp only [IntOp.minsi, BitVec.slt]; split <;> simp_all <;> omega)]
  exact fold_min_eq (fun j => (f j).toInt) b.toInt k hb h

/-- On distances that are numbers, the number of the code is the first least place. -/
theorem kIndex_coe (D : FVec Ideal S2048x1024 .f32) (t : Fin 2048) (f : Fin 1024 → ℝ)
    (hD : ∀ k, D (ix2 t k) = ((f k : ℝ) : EReal)) : kIndex D (ix1 t) = BitVec.ofNat 32 (firstMin f) := by
  rw [kIndex_apply]
  simp only [kMin_coe D t f hD, hD, EReal.coe_eq_coe_iff]
  have e : (if f (firstMin f) = f (firstMin f) then BitVec.ofNat 32 (firstMin f) else 1024#32)
      = BitVec.ofNat 32 (firstMin f) := if_pos rfl
  have hk := (firstMin f).isLt
  have ek := toInt_ofNat_small (firstMin f) (by omega)
  refine (fold_minsi_eq (fun k : Fin 1024 => if f k = f (firstMin f) then BitVec.ofNat 32 k else 1024#32) _ (firstMin f) ?_ fun j => ?_).trans e
  · rw [e, ek, show (2147483647#32).toInt = 2147483647 from by decide]; omega
  · rw [e, ek]
    by_cases h : f j = f (firstMin f)
    · rw [if_pos h, toInt_ofNat_small j (by omega)]
      rcases firstMin_spec f j with g | g
      · exact absurd h.symm g.ne
      · exact_mod_cast g.2
    · rw [if_neg h, show (1024#32).toInt = 1024 from by decide]; omega

/-- The packed codes against the mask of code `k` are row `k`. -/
theorem kParts_hot (c2 : FVec Ideal S1024x192 .bf16) (M : IVec S2048x1024 1) (d : Fin 192) (t : Fin 2048) (k : Fin 1024)
    (hM : ∀ j, M (ix2 t j) = if k = j then 1#1 else 0#1) : kParts c2 M (ix2 d t) = c2 (ix2 k d) := by
  rw [kParts_apply, Finset.sum_eq_single k]
  · rw [hM, if_pos rfl, if_pos rfl, mul_one]
  · intro j _ hj
    rw [hM, if_neg hj.symm, if_neg (by decide), mul_zero]
  · exact fun h => absurd (Finset.mem_univ _) h

/-- One stage on numbers adds the nearest code. -/
theorem kStage_coe (cb : Codebook) (R : Fin 64 → ℝ) (t : Fin 2048)
    (l1 : Vec Ideal S1x1024x64 .bf16) (l2 : Vec Ideal S1x1024x192 .bf16) (l3 : Vec Ideal S1x1024 .f32)
    (r : FVec Ideal S64x2048 .f32)
    (h1 : ∀ k d, l1 (ix3 0 k d) = ((-2 * cb k d : ℝ) : EReal))
    (h2 : ∀ k (d : Fin 64), l2 (ix3 0 k ⟨d, by omega⟩) = ((cb k d : ℝ) : EReal)
      ∧ l2 (ix3 0 k ⟨64 + d, by omega⟩) = (0 : EReal) ∧ l2 (ix3 0 k ⟨128 + d, by omega⟩) = (0 : EReal))
    (h3 : ∀ k, l3 (ix2 0 k) = ((∑ d, cb k d * cb k d : ℝ) : EReal))
    (hr : ∀ d, r (ix2 d t) = ((R d : ℝ) : EReal)) (d : Fin 64) :
    kStage l1 l2 l3 r (ix2 d t) = ((nearest cb R d : ℝ) : EReal) := by
  have e2 : ∀ (k : Fin 1024) (d : Fin 192), shapeCast S1024x192 l2 shapeCasts_S1x1024x192_S1024x192 (ix2 k d)
      = l2 (ix3 0 k d) := fun k d => by pointwise []
  have hM : ∀ j, kHot l1 l3 r (ix2 t j) = if firstMin (dist cb R) = j then 1#1 else 0#1 := fun j => by
    rw [kHot, kMask_apply, kIndex_coe _ t (dist cb R)
      (fun k => kDist_coe cb R t k _ _ r (fun k d => by rw [← h1 k d]; pointwise [])
        (fun k => by rw [← h3 k]; pointwise []) hr)]
    simp only [ofNat_inj]
  have hq : kSum (F := Ideal) (kParts (shapeCast S1024x192 l2 shapeCasts_S1x1024x192_S1024x192) (kHot l1 l3 r)) (ix2 d t)
      = ((nearest cb R d : ℝ) : EReal) := by
    rw [kSum_apply]
    simp only [kParts_hot _ _ _ t _ hM, e2, h2]
    rw [add_zero, add_zero, nearest]
  change (r (ix2 d t) + (kSum (F := Ideal) (kParts (shapeCast S1024x192 l2 shapeCasts_S1x1024x192_S1024x192) (kHot l1 l3 r))
    (ix2 d t) - r (ix2 d t)) : EReal) = _
  rw [hq, hr, straight_through]

end Cert.Proof.Rvq

end
-- ==== Proof.KernelStages.lean ====
/-
  The eight stages of one block of the kernel on numbers: at each token the residual and the result are those of the
  quantization of that token.
-/
module

public import proofs.«01_k».proof.Proof.KernelBlock
public import proofs.«01_k».proof.Proof.KernelRead
public import Idealize.ShloMosaic.Lib.Pipeline.ValueKit.Tiles

@[expose] public section

noncomputable section

namespace Cert.Proof.Rvq

open Idealize.ShloMosaic Idealize.ShloMosaic.Pointwise Cert.KernelIdeal Cert.KernelIdeal.Gen

/-- What the kernel's three codebook arrays hold where the codebooks are the numbers `C`: the codes times minus two, the
    codes followed by zeros, and the codes' squared norms. -/
structure Holds (C : Fin 8 → Codebook) (x1 : Vec Ideal S8x1024x64 .bf16) (x2 : Vec Ideal S8x1024x192 .bf16)
    (x3 : Vec Ideal S8x1024 .f32) : Prop where
  doubled : ∀ n k d, x1 (ix3 n k d) = ((-2 * C n k d : ℝ) : EReal)
  first : ∀ n k (d : Fin 64), x2 (ix3 n k ⟨d, by omega⟩) = ((C n k d : ℝ) : EReal)
  second : ∀ n k (d : Fin 64), x2 (ix3 n k ⟨64 + d, by omega⟩) = (0 : EReal)
  third : ∀ n k (d : Fin 64), x2 (ix3 n k ⟨128 + d, by omega⟩) = (0 : EReal)
  norms : ∀ n k, x3 (ix2 n k) = ((∑ d, C n k d * C n k d : ℝ) : EReal)

/-- The rectangle of codebook `n` in an array of eight, read at a code and a coordinate. -/
theorem ld_slice1 (x1 : Vec Ideal S8x1024x64 .bf16) (n : ℕ) (h : n + 1 ≤ 8) (k : Fin 1024) (d : Fin 64) :
    View.ld x1 (slice1 n h) (ix3 0 k d) = x1 (ix3 ⟨n, h⟩ k d) :=
  View.ld_unit_apply_of x1 _ _ _ _ _ (fun | 0 => rfl | 1 => (Nat.zero_add _).symm | 2 => (Nat.zero_add _).symm)

/-- The same of the packed codes. -/
theorem ld_slice2 (x2 : Vec Ideal S8x1024x192 .bf16) (n : ℕ) (h : n + 1 ≤ 8) (k : Fin 1024) (d : Fin 192) :
    View.ld x2 (slice2 n h) (ix3 0 k d) = x2 (ix3 ⟨n, h⟩ k d) :=
  View.ld_unit_apply_of x2 _ _ _ _ _ (fun | 0 => rfl | 1 => (Nat.zero_add _).symm | 2 => (Nat.zero_add _).symm)

/-- The same of the squared norms. -/
theorem ld_slice3 (x3 : Vec Ideal S8x1024 .f32) (n : ℕ) (h : n + 1 ≤ 8) (k : Fin 1024) :
    View.ld x3 (slice3 n h) (ix2 0 k) = x3 (ix2 ⟨n, h⟩ k) :=
  View.ld_unit_apply_of x3 _ _ _ _ _ (fun | 0 => rfl | 1 => (Nat.zero_add _).symm)

section

variable {C : Fin 8 → Codebook} {x0 : Vec Ideal S1x64x2048 .f32} {x1 : Vec Ideal S8x1024x64 .bf16}
  {x2 : Vec Ideal S8x1024x192 .bf16} {x3 : Vec Ideal S8x1024 .f32}

/-- Stage `n` adds the nearest code of codebook `n`. -/
theorem kCode_coe (H : Holds C x1 x2 x3) (n : ℕ) (h : n + 1 ≤ 8) (r : FVec Ideal S64x2048 .f32) (t : Fin 2048)
    (R : Fin 64 → ℝ) (hr : ∀ d, r (ix2 d t) = ((R d : ℝ) : EReal)) (d : Fin 64) :
    kCode x1 x2 x3 n h r (ix2 d t) = ((nearest (C ⟨n, h⟩) R d : ℝ) : EReal) :=
  kStage_coe (C ⟨n, h⟩) R t _ _ _ r (fun k d => (ld_slice1 x1 n h k d).trans (H.doubled _ k d))
    (fun k d => ⟨(ld_slice2 x2 n h k _).trans (H.first _ k d), (ld_slice2 x2 n h k _).trans (H.second _ k d),
      (ld_slice2 x2 n h k _).trans (H.third _ k d)⟩) (fun k => (ld_slice3 x3 n h k).trans (H.norms _ k)) hr d

/-- The residual of the token after `n` stages. -/
theorem kRes_coe (H : Holds C x1 x2 x3) (t : Fin 2048) (X : Fin 64 → ℝ)
    (hx : ∀ d, x0 (ix3 0 d t) = ((X d : ℝ) : EReal)) : ∀ (n : ℕ) (h : n ≤ 8) (d : Fin 64),
    kRes x0 x1 x2 x3 n h (ix2 d t) = (((state C X n h).1 d : ℝ) : EReal)
  | 0, _, d => by
    have e : View.ld x0 r1_0 = x0 := View.ld_unit_zero (by decide) _ _
    change k1_pay2 (View.ld x0 r1_0) (ix2 d t) = _
    rw [e]
    refine Eq.trans ?_ (hx d)
    pointwise [k1_pay2]
  | n + 1, h, d => by
    have ih := kRes_coe H t X hx n (Nat.le_of_succ_le h)
    change (kRes x0 x1 x2 x3 n _ (ix2 d t) - kCode x1 x2 x3 n h (kRes x0 x1 x2 x3 n _) (ix2 d t) : EReal) = _
    rw [kCode_coe H n h _ t _ ih, ih, ← EReal.coe_sub, state_succ_fst]

/-- The result of the token after `n` stages. -/
theorem kAcc_coe (H : Holds C x1 x2 x3) (t : Fin 2048) (X : Fin 64 → ℝ)
    (hx : ∀ d, x0 (ix3 0 d t) = ((X d : ℝ) : EReal)) : ∀ (n : ℕ) (h : n ≤ 8) (d : Fin 64),
    kAcc x0 x1 x2 x3 n h (ix2 d t) = (((state C X n h).2 d : ℝ) : EReal)
  | 0, _, d => by
    change k1_pay3 (F := Ideal) (ix2 d t) = ((0 : ℝ) : EReal)
    rw [EReal.coe_zero]
    pointwise [k1_pay3]
  | n + 1, h, d => by
    change (kAcc x0 x1 x2 x3 n _ (ix2 d t) + kCode x1 x2 x3 n h (kRes x0 x1 x2 x3 n _) (ix2 d t) : EReal) = _
    rw [kCode_coe H n h _ t _ (kRes_coe H t X hx n (Nat.le_of_succ_le h)), kAcc_coe H t X hx n, ← EReal.coe_add,
      state_succ_snd]

/-- The output block at a token: the sum of the eight codes chosen for it. -/
theorem out1_4_coe (H : Holds C x1 x2 x3) (t : Fin 2048) (X : Fin 64 → ℝ)
    (hx : ∀ d, x0 (ix3 0 d t) = ((X d : ℝ) : EReal)) (d : Fin 64) :
    out1_4 x0 x1 x2 x3 (ix3 0 d t) = (((state C X 8 le_rfl).2 d : ℝ) : EReal) := by
  rw [out1_4_eq, ← kAcc_coe H t X hx 8 le_rfl d]
  pointwise []

end

end Cert.Proof.Rvq

end
-- ==== Proof.KernelArray.lean ====
/-
  The kernel's result array on numbers. The first launch writes the codebooks times minus two and the packed parts; the
  host forms the squared norms; the second launch writes, at every token, the sum of the eight codes chosen for it.
-/
module

public import proofs.«01_k».proof.Proof.KernelStages
public import Idealize.ShloMosaic.Lib.Pipeline.ValueKit.Geometry
public import Idealize.ShloMosaic.Lib.StableHlo.RunRead

@[expose] public section

noncomputable section

namespace Cert.Proof.Rvq

open Idealize.ShloMosaic Idealize.ShloMosaic.TcCoe Idealize.ShloMosaic.Pointwise Cert.KernelIdeal Cert.KernelIdeal.Gen
open Idealize.ShloMosaic.Pipeline (Dat)

/-! ## What the first launch's body leaves -/

/-- The f32 pattern `0xC0000000` is minus two. -/
theorem ofBits_neg_two_f32 : Ideal.ofBits .f32 0xC0000000#32 = ((-2 : ℝ) : EReal) := by
  simp [Ideal.ofBits, Ideal.ieee, -EReal.coe_mul, -EReal.coe_neg]; norm_num

/-- What is left of a number after its first part is zero. -/
theorem sub_self_coe (r : ℝ) : ((r : EReal) - (r : EReal)) = 0 := by
  rw [← EReal.coe_sub, sub_self, EReal.coe_zero]

/-- The packed parts are those of the codebooks. -/
theorem out0_2_eq (x : Vec Ideal S8x1024x64 .f32) : out0_2 x = k0_pay3 x := by
  unfold out0_2
  rw [View.ld_unit_zero (by decide)]
  exact View.canon_unit_zero (by decide) _ _

section

variable {C : Fin 8 → Codebook} {x : Vec Ideal S8x1024x64 .f32} (hx : ∀ n k d, x (ix3 n k d) = ((C n k d : ℝ) : EReal))
include hx

/-- The doubled codes. -/
theorem out0_1_coe (n : Fin 8) (k : Fin 1024) (d : Fin 64) : out0_1 x (ix3 n k d) = ((-2 * C n k d : ℝ) : EReal) := by
  have e : out0_1 x = k0_pay2 x := by
    unfold out0_1
    rw [View.ld_unit_zero (by decide)]
    exact View.canon_unit_zero (by decide) _ _
  rw [e, EReal.coe_mul, ← hx, ← ofBits_neg_two_f32]
  pointwise [k0_pay2, k0_pay1]

/-- The first part is the code. -/
theorem out0_2_first (n : Fin 8) (k : Fin 1024) (d : Fin 64) :
    out0_2 x (ix3 n k ⟨d, by omega⟩) = ((C n k d : ℝ) : EReal) := by
  rw [out0_2_eq, ← hx]
  pointwise [k0_pay3, k0_pay1]

/-- The second part is zero. -/
theorem out0_2_second (n : Fin 8) (k : Fin 1024) (d : Fin 64) : out0_2 x (ix3 n k ⟨64 + d, by omega⟩) = (0 : EReal) := by
  have h : out0_2 x (ix3 n k ⟨64 + d, by omega⟩) = (x (ix3 n k d) - x (ix3 n k d) : EReal) := by
    rw [out0_2_eq]
    pointwise [k0_pay3, k0_pay1]
  rw [h, hx, sub_self_coe]

/-- The third part is zero. -/
theorem out0_2_third (n : Fin 8) (k : Fin 1024) (d : Fin 64) : out0_2 x (ix3 n k ⟨128 + d, by omega⟩) = (0 : EReal) := by
  have h : out0_2 x (ix3 n k ⟨128 + d, by omega⟩)
      = (x (ix3 n k d) - x (ix3 n k d) - (x (ix3 n k d) - x (ix3 n k d)) : EReal) := by
    rw [out0_2_eq]
    pointwise [k0_pay3, k0_pay1]
    have a1 : ¬ 128 + (d : ℕ) < 64 := by omega
    have a2 : ¬ 128 + (d : ℕ) - 64 < 64 := by omega
    have a3 : 128 + (d : ℕ) - 64 - 64 = d := by omega
    simp only [a1, a2, a3, dite_false]
  rw [h, hx, sub_self_coe, sub_zero]

end

/-! ## The arrays the second launch finds -/

variable (m : (ℓ : Loc nD τ sig) → Buf (Elt Ideal) ℓ) (ρ : Dev nD → PrngReg)

/-- The first launch's windows are whole arrays. -/
theorem idx0 : ∀ t : Fin cfg0.N, win0_0.index t = ![0, 0, 0] ∧ win0_1.index t = ![0, 0, 0] ∧ win0_2.index t = ![0, 0, 0] :=
  (by decide +kernel : ∀ t : Fin grid0.N, _)

/-- The first launch reads the codebooks. -/
theorem iblk0_eq (c : Dev nD) (t : Fin cfg0.N) : iblk0 (V0 m ρ) c 0 t = m ((c : Thread nD τ).loc main_arg1) := by
  funext y
  change m ((c : Thread nD τ).loc main_arg1) ((win0_0.blk t).view.emb y) = m ((c : Thread nD τ).loc main_arg1) y
  congr 1
  blk_ext [(idx0 t).1]

/-- After the first launch its first result is what the body leaves of the codebooks. -/
theorem W1_v0_0 (c : Dev nD) : W1 m ρ c (Proc.devRef .tc main_v0_0) = out0_1 (m ((c : Thread nD τ).loc main_arg1)) := by
  refine (W1_arr m ρ c 1).trans ?_
  refine (dat0 (V0 m ρ) c).arrAt_eq_of_covers 1 _ (by decide +kernel) fun t hf y => ?_
  blk_simp
  rw [after0_1, iblk0_eq]
  congr 1
  blk_ext [(idx0 t).2.1]

/-- And its second. -/
theorem W1_v0_1 (c : Dev nD) : W1 m ρ c (Proc.devRef .tc main_v0_1) = out0_2 (m ((c : Thread nD τ).loc main_arg1)) := by
  refine (W1_arr m ρ c 2).trans ?_
  refine (dat0 (V0 m ρ) c).arrAt_eq_of_covers 2 _ (by decide +kernel) fun t hf y => ?_
  blk_simp
  rw [after0_2, iblk0_eq]
  congr 1
  blk_ext [(idx0 t).2.2]

/-- The squared norms as the host forms them. -/
def norms (x : FVec Ideal S8x1024x64 .f32) : FVec Ideal S8x1024 .f32 :=
  Host.reduceAdd (mulf x x) (constant (F := Ideal) S_ .f32 0x00000000#32) reducesTo_S8x1024x64_S8x1024_d2 h_S_

/-- On numbers they are the sums of squares. -/
theorem norms_coe {C : Fin 8 → Codebook} {x : FVec Ideal S8x1024x64 .f32}
    (hx : ∀ n k d, x (ix3 n k d) = ((C n k d : ℝ) : EReal)) (n : Fin 8) (k : Fin 1024) :
    norms x (ix2 n k) = ((∑ d, C n k d * C n k d : ℝ) : EReal) := by
  have h : norms x (ix2 n k) = (∑ d : Fin 64, x (ix3 n k d) * x (ix3 n k d) : EReal) := by pointwise [norms]
  simp only [h, hx, ← EReal.coe_mul, ← coe_sum]

/-- The squared norms the second launch finds. -/
theorem W2_v2 (c : Dev nD) : W2 m ρ c (Proc.devRef .tc main_v2) = norms (m ((c : Thread nD τ).loc main_arg1)) := by
  have e : W2 m ρ c (Proc.devRef .tc main_v2) = norms (W1 m ρ c (Proc.devRef .tc main_arg1)) := by
    after_results; rfl
  rw [e, W1_args m ρ c main_arg1 (by decide)]

/-! ## The result array -/

/-- The second launch's blocks: a batch and a half of its tokens; the codebook arrays whole. -/
theorem idx1 : ∀ t : Fin cfg1.N, win1_0.index t = ![(grid1.coords t 0).val, 0, (grid1.coords t 1).val]
    ∧ win1_1.index t = ![0, 0, 0] ∧ win1_2.index t = ![0, 0, 0] ∧ win1_3.index t = ![0, 0]
    ∧ win1_4.index t = ![(grid1.coords t 0).val, 0, (grid1.coords t 1).val] :=
  (by decide +kernel : ∀ t : Fin grid1.N, _)

/-- The doubled codes at every point. -/
theorem iblk1_1_eq (c : Dev nD) (t : Fin cfg1.N) : iblk1 (V2 m ρ) c 1 t = out0_1 (m ((c : Thread nD τ).loc main_arg1)) := by
  rw [← W1_v0_0 m ρ c, ← W2_of m ρ c main_v0_0 (by decide)]
  funext y
  change W2 m ρ c (Proc.devRef .tc main_v0_0) ((win1_1.blk t).view.emb y) = W2 m ρ c (Proc.devRef .tc main_v0_0) y
  congr 1
  blk_ext [(idx1 t).2.1]

/-- The packed parts at every point. -/
theorem iblk1_2_eq (c : Dev nD) (t : Fin cfg1.N) : iblk1 (V2 m ρ) c 2 t = out0_2 (m ((c : Thread nD τ).loc main_arg1)) := by
  rw [← W1_v0_1 m ρ c, ← W2_of m ρ c main_v0_1 (by decide)]
  funext y
  change W2 m ρ c (Proc.devRef .tc main_v0_1) ((win1_2.blk t).view.emb y) = W2 m ρ c (Proc.devRef .tc main_v0_1) y
  congr 1
  blk_ext [(idx1 t).2.2.1]

/-- The squared norms at every point. -/
theorem iblk1_3_eq (c : Dev nD) (t : Fin cfg1.N) : iblk1 (V2 m ρ) c 3 t = norms (m ((c : Thread nD τ).loc main_arg1)) := by
  rw [← W2_v2 m ρ c]
  funext y
  change W2 m ρ c (Proc.devRef .tc main_v2) ((win1_3.blk t).view.emb y) = W2 m ρ c (Proc.devRef .tc main_v2) y
  congr 1
  blk_ext [(idx1 t).2.2.2.1]

/-- A block of tokens read at a token: the token array at the block's batch, the token counted from the batch's start. -/
theorem iblk1_0_apply (c : Dev nD) (t : Fin cfg1.N) (d : Fin 64) (s : Fin 2048) (b : Fin 4) (T : Fin 4096)
    (hb : (b : ℕ) = (grid1.coords t 0).val) (hT : (T : ℕ) = (grid1.coords t 1).val * 2048 + s) :
    iblk1 (V2 m ρ) c 0 t (ix3 0 d s) = m ((c : Thread nD τ).loc main_arg0) (ix3 b d T) := by
  rw [← W2_args m ρ c main_arg0 (by decide)]
  change W2 m ρ c (Proc.devRef .tc main_arg0) ((win1_0.blk t).view.emb (ix3 0 d s))
    = W2 m ρ c (Proc.devRef .tc main_arg0) (ix3 b d T)
  congr 1
  blk_ext [(idx1 t).1, hb, hT]

/-- The result array on numbers: for every token the sum of the codes chosen in the eight stages. -/
def result (C : Fin 8 → Codebook) (X : Fin 4 → Fin 4096 → Fin 64 → ℝ) : Vec Ideal S4x64x4096 .f32 :=
  fun i => (((state C (X (i 0) (i 2)) 8 le_rfl).2 (i 1) : ℝ) : EReal)

/-- The array the second launch leaves. -/
theorem W3_v3 (c : Dev nD) {C : Fin 8 → Codebook} {X : Fin 4 → Fin 4096 → Fin 64 → ℝ}
    (h0 : ∀ b d t, (m ((c : Thread nD τ).loc main_arg0) : Vec Ideal S4x64x4096 .f32) (ix3 b d t) = ((X b t d : ℝ) : EReal))
    (h1 : ∀ n k d, (m ((c : Thread nD τ).loc main_arg1) : Vec Ideal S8x1024x64 .f32) (ix3 n k d) = ((C n k d : ℝ) : EReal)) :
    W3 m ρ c (Proc.devRef .tc main_v3) = result C X := by
  have H : Holds C (out0_1 (m ((c : Thread nD τ).loc main_arg1))) (out0_2 (m ((c : Thread nD τ).loc main_arg1)))
      (norms (m ((c : Thread nD τ).loc main_arg1))) :=
    ⟨out0_1_coe h1, out0_2_first h1, out0_2_second h1, out0_2_third h1, norms_coe h1⟩
  refine (W3_arr m ρ c 4).trans ?_
  refine (dat1 (V2 m ρ) c).arrAt_eq_of_covers 4 _ (by decide +kernel) fun t hf y => ?_
  blk_simp
  rw [after1_4, iblk1_1_eq, iblk1_2_eq, iblk1_3_eq]
  set i := (win1_4.blk t).view.emb y with hi
  have e0 : (i 0 : ℕ) = (grid1.coords t 0).val + (y 0 : ℕ) := by rw [hi]; blk_simp [(idx1 t).2.2.2.2]
  have e1 : (i 1 : ℕ) = (y 1 : ℕ) := by rw [hi]; blk_simp [(idx1 t).2.2.2.2]
  have e2 : (i 2 : ℕ) = (grid1.coords t 1).val * 2048 + (y 2 : ℕ) := by rw [hi]; blk_simp [(idx1 t).2.2.2.2]
  have hy : y = ix3 0 (i 1) (y 2) := by
    refine (eq_ix3 y).trans ?_
    congr 1
    · exact Subsingleton.elim _ _
    · exact Fin.ext e1.symm
  rw [hy]
  have y0 : (y 0 : ℕ) < 1 := (y 0).isLt
  exact out1_4_coe H (y 2) (X (i 0) (i 2))
    (fun d => (iblk1_0_apply m ρ c t d (y 2) (i 0) (i 2) (e0.trans (by omega)) e2).trans (h0 (i 0) d (i 2))) (i 1)

end Cert.Proof.Rvq

end
-- ==== Proof.KernelRun.lean ====
/-
  The kernel's run with its result array named: from any memory with zero counters every fair execution ends with the
  result array at what the second launch leaves and both arguments as launched.
-/
module

public import proofs.«01_k».proof.Proof.Gen.KernelIdeal.Frame

@[expose] public section

noncomputable section

namespace Cert.Proof.Rvq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library's run theorem is met by unifying its conclusion with this one, which unfolds plain definitions in types
set_option backward.isDefEq.respectTransparency.types false in
/-- The run: the result array ends at `W3`'s contents, the arguments end as launched. -/
theorem kernel_run : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨h c _ (mem_uc main_v3 (by decide)),
       (h c _ (mem_uc main_arg0 (by decide))).trans (W3_main_arg0 m ρ c),
       (h c _ (mem_uc main_arg1 (by decide))).trans (W3_main_arg1 m ρ c)⟩)

end Cert.Proof.Rvq

end
-- ==== Proof.ReferenceStage.lean ====
/-
  One stage of the reference on all 16384 tokens, as named array functions: the codebook of the stage, the distances, the
  number of the nearest code, the code read at that number. Below, what each stretch of the loop's body leaves is one of
  these functions.
-/
module

public import proofs.«01_k».proof.Proof.Gen.ReferenceIdeal.Run

@[expose] public section

noncomputable section

namespace Cert.Proof.Rvq

open Idealize.ShloMosaic Idealize.ShloMosaic.TcCoe Idealize.ShloMosaic.Tactic Idealize.ShloMosaic.StableHlo
open Cert.ReferenceIdeal Cert.ReferenceIdeal.Gen Cert.ReferenceIdeal.Value

variable {F : FTy → Type} [FloatOps F]

/-- The stage's number, eight added where it is negative. -/
def rWrap (q : IVec S_ 32) : IVec S_ 32 := select (cmpi .slt q (constantI S_ 32 0#32)) (addi q (constantI S_ 32 8#32)) q

/-- The codebook of the stage. -/
def rBook (q : IVec S_ 32) (X : FVec F S8x1024x64 .f32) : FVec F S1024x64 .f32 :=
  shapeCast S1024x64 (Host.dynamicSlice S1x1024x64 X
    (fun k => ((![rWrap q, constantI S_ 32 0#32, constantI S_ 32 0#32] : Fin 3 → IVec S_ 32) k (Shape.Idx.first h_S_)).toInt)
    sliceFits_S8x1024x64_S1x1024x64) shapeCasts_S1x1024x64_S1024x64

/-- The squared distances of every token to every code: `(|r|² - 2 r·c) + |c|²`. -/
def rDist (cb : FVec F S1024x64 .f32) (r : FVec F S16384x64 .f32) : FVec F S16384x1024 .f32 :=
  addf (subf
      (broadcastInDim S16384x1024 ![0, 1] bcast_S16384x1_S16384x1024_0_1 (broadcastInDim S16384x1 ![0] bcast_S16384_S16384x1_0
        (Host.reduceAdd (mulf r r) (constant S_ .f32 0x00000000#32) reducesTo_S16384x64_S16384_d1 h_S_)))
      (mulf (broadcastInDim S16384x1024 ![] bcast_S_S16384x1024 (constant S_ .f32 0x40000000#32))
        (Host.dotGeneral dot_S16384x64_S64x1024_S16384x1024_1_0_0_1_n_n none r
          (transpose S64x1024 [1, 0] cb transposes_S1024x64_S64x1024_1_0))))
    (broadcastInDim S16384x1024 ![0, 1] bcast_S1x1024_S16384x1024_0_1 (broadcastInDim S1x1024 ![1] bcast_S1024_S1x1024_1
      (Host.reduceAdd (mulf cb cb) (constant S_ .f32 0x00000000#32) reducesTo_S1024x64_S1024_d1 h_S_)))

/-- The number of each token's nearest code. -/
def rIndex (D : FVec F S16384x1024 .f32) : IVec S16384 32 := fun j =>
  (Host.argReduce reducer_argmin_f32_i32 D (iotaInDim S16384x1024 32 1) (constant S_ .f32 0x7F800000#32) (constantI S_ 32 0#32)
    reducesTo_S16384x1024_S16384_d1 h_S_ j).2

/-- The code numbers, 1024 added to the negative ones, as a column. -/
def rCol (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 1024#32))) i)

/-- Which code numbers are between 0 and 1023. -/
def rOk (v : IVec S16384x1 32) : IVec S16384 1 :=
  Host.reduce IntOp.andi
    (andi (cmpi .sge v (broadcastInDim S16384x1 ![] bcast_S_S16384x1 (constantI S_ 32 0#32)))
      (cmpi .sle v (broadcastInDim S16384x1 ![0, 1] bcast_S1x1_S16384x1_0_1
        (broadcastInDim S1x1 ![1] bcast_S1_S1x1_1 (constantI S1 32 1023#32)))))
    (constantI S_ 1 1#1) reducesTo_S16384x1_S16384_d1 h_S_

/-- The codes at the numbers. -/
def rTake (cb : FVec F S1024x64 .f32) (i : IVec S16384 32) : FVec F S16384x64 .f32 :=
  select (broadcastInDim S16384x64 ![0] bcast_S16384_S16384x64_0 (rOk (rCol i)))
    (Host.gather gather_S1024x64_S16384x1_S16384x64_1_0_n_n_0_1_164 cb (rCol i))
    (broadcastInDim S16384x64 ![] bcast_S_S16384x64 (constant S_ .f32 0x7FC00000#32))

/-- What a stage adds to the result: `r + (q - r)`, `q` the chosen code of each token. -/
def rCode (q : IVec S_ 32) (X : FVec F S8x1024x64 .f32) (r : FVec F S16384x64 .f32) : FVec F S16384x64 .f32 :=
  addf r (subf (rTake (rBook q X) (rIndex (rDist (rBook q X) r))) r)

/-! ## The stretches of the loop's body -/

section

variable (V : Valuation τ sig (Elt F))

/-- The stage's number stepped. -/
theorem body_v6 : after while0Ops0 V (Proc.devRef .tc main_while0b_v6)
    = addi (V (Proc.devRef .tc main_v3_2)) (constantI S_ 32 1#32) := by
  after_results

/-- The stage's codebook. -/
theorem body_v7 : after while0Ops0_1 V (Proc.devRef .tc main_while0b_v7)
    = rBook (V (Proc.devRef .tc main_v3_2)) (V (Proc.devRef .tc main_v3_0)) := by
  after_reads_simp [unaryIndexed_result_read, indexContents_tref_cons, indexContents_tref_empty]
  simp only [TRef.ofBuf, TRef.toBuf, cast_cast, cast_eq]
  rfl

/-- The distances. -/
theorem body_v21 : after while0Ops0_2 V (Proc.devRef .tc main_while0b_v21)
    = rDist (V (Proc.devRef .tc main_while0b_v7)) (V (Proc.devRef .tc main_v3_3)) := by
  after_results; rfl

/-- The code numbers. -/
theorem body_v22 : after while0Ops0_3 V (Proc.devRef .tc main_while0b_v22)
    = rIndex (V (Proc.devRef .tc main_while0b_v21)) := by
  after_results; rfl

/-- The codes. -/
theorem body_v23 : after while0Ops0_4 V (Proc.devRef .tc main_while0b_v23)
    = rTake (V (Proc.devRef .tc main_while0b_v7)) (V (Proc.devRef .tc main_while0b_v22)) := by
  after_reads_simp
  simp only [TRef.ofBuf, TRef.toBuf, cast_cast, cast_eq]
  rfl

/-- The stage's number carried on. -/
theorem body_v3_2 : after while0Ops0_5 V (Proc.devRef .tc main_v3_2) = V (Proc.devRef .tc main_while0b_v6) := by
  after_results; rfl

/-- The residual carried on. -/
theorem body_v3_3 : after while0Ops0_5 V (Proc.devRef .tc main_v3_3)
    = subf (V (Proc.devRef .tc main_v3_3)) (addf (V (Proc.devRef .tc main_v3_3))
        (subf (V (Proc.devRef .tc main_while0b_v23)) (V (Proc.devRef .tc main_v3_3)))) := by
  after_results; rfl

/-- The result carried on. -/
theorem body_v3_4 : after while0Ops0_5 V (Proc.devRef .tc main_v3_4)
    = addf (V (Proc.devRef .tc main_v3_4)) (addf (V (Proc.devRef .tc main_v3_3))
        (subf (V (Proc.devRef .tc main_while0b_v23)) (V (Proc.devRef .tc main_v3_3)))) := by
  after_results; rfl

end

end Cert.Proof.Rvq

end
-- ==== Proof.ReferenceArgmin.lean ====
/-
  The reference's arg-min over a row of distances that are numbers: whatever the order in which the pairs (distance, code
  number) are folded, the pair left is the least one, distances first and code numbers second. So the code number is the
  first least place of the row.
-/
module

public import proofs.«01_k».proof.Proof.Spec
public import proofs.«01_k».proof.Proof.ReferenceStage
public import Idealize.ShloMosaic.Lib.Pointwise
public import Idealize.ShloMosaic.Lib.ValueIdx
public import Mathlib.Data.Prod.Lex

@[expose] public section

noncomputable section

namespace Cert.Proof.Rvq

open Idealize.ShloMosaic Idealize.ShloMosaic.Pointwise Cert.ReferenceIdeal Cert.ReferenceIdeal.Gen

/-- A pair of a number and a code number, as the reduction holds it. -/
def pair (p : ℝ ×ₗ Fin 1024) : Ideal .f32 × BitVec 32 := (((ofLex p).1 : ℝ), BitVec.ofNat 32 ((ofLex p).2 : ℕ))

/-- Of two different words below 1024, one is less than the other when their numbers are. -/
theorem slt_ofNat (k l : Fin 1024) : (BitVec.ofNat 32 (k : ℕ)).slt (BitVec.ofNat 32 (l : ℕ)) = decide (k < l) := by
  have hk := k.isLt
  have hl := l.isLt
  rw [BitVec.slt, toInt_ofNat_small k (by omega), toInt_ofNat_small l (by omega)]
  exact decide_eq_decide.mpr (by exact_mod_cast Iff.rfl)

/-- The reducer takes the first value where it is less, and the first number where the value is less or, the values
    being equal, the number is. -/
theorem reducer_eq (a b : EReal) (k l : Fin 1024) :
    reducer_argmin_f32_i32 (F := Ideal) (a, BitVec.ofNat 32 (k : ℕ)) (b, BitVec.ofNat 32 (l : ℕ))
      = (if a < b then a else b, BitVec.ofNat 32 ((if a < b ∨ (a = b ∧ k < l) then k else l : Fin 1024) : ℕ)) := by
  by_cases h : a < b <;> by_cases g : a = b <;> by_cases e : k < l <;>
    simp [reducer_argmin_f32_i32, Ideal.cmpf_def, Ideal.cmp, IntOp.ori, IntOp.andi, IntOp.cmpi, Scalar.select, slt_ofNat, h, g, e]

/-- The reducer on two pairs of numbers leaves the lesser one. -/
theorem reducer_pair (p q : ℝ ×ₗ Fin 1024) :
    reducer_argmin_f32_i32 (F := Ideal) (pair p) (pair q) = pair (min p q) := by
  refine (reducer_eq _ _ _ _).trans ?_
  simp only [EReal.coe_lt_coe_iff, EReal.coe_eq_coe_iff]
  rcases lt_trichotomy p q with h | h | h
  · rw [min_eq_left h.le]
    have h' := Prod.Lex.lt_iff.mp h
    rw [if_pos h']
    rcases h' with g | g
    · rw [if_pos g]; rfl
    · rw [if_neg (by rw [g.1]; exact lt_irrefl _), ← g.1]; rfl
  · subst h; simp [pair]
  · rw [min_eq_right h.le]
    have h' := Prod.Lex.lt_iff.mp h
    have n1 : ¬ (ofLex p).1 < (ofLex q).1 := by
      rcases h' with g | g
      · exact lt_asymm g
      · rw [g.1]; exact lt_irrefl _
    have n2 : ¬ ((ofLex p).1 < (ofLex q).1 ∨ (ofLex p).1 = (ofLex q).1 ∧ (ofLex p).2 < (ofLex q).2) := fun c =>
      lt_asymm h (Prod.Lex.lt_iff.mpr c)
    rw [if_neg n1, if_neg n2]; rfl

/-- The reducer on the initial pair and a pair of numbers leaves the latter. -/
theorem reducer_top (q : ℝ ×ₗ Fin 1024) :
    reducer_argmin_f32_i32 (F := Ideal) ((⊤ : EReal), 0#32) (pair q) = pair q := by
  refine (reducer_eq ⊤ _ 0 _).trans ?_
  have n : ¬ (⊤ : EReal) < ((ofLex q).1 : ℝ) := not_top_lt
  have n' : (⊤ : EReal) ≠ ((ofLex q).1 : ℝ) := (EReal.coe_ne_top _).symm
  simp [n, n', pair]

/-- A fold of the reducer over pairs of numbers leaves one of them that is no greater than any. -/
theorem foldl_pair (l : List (ℝ ×ₗ Fin 1024)) (p : ℝ ×ₗ Fin 1024) :
    ∃ q, (l.map pair).foldl (reducer_argmin_f32_i32 (F := Ideal)) (pair p) = pair q ∧ q ∈ p :: l ∧ ∀ q' ∈ p :: l, q ≤ q' := by
  induction l generalizing p with
  | nil => exact ⟨p, rfl, by simp, by simp⟩
  | cons a l ih =>
    obtain ⟨q, e, hm, hle⟩ := ih (min p a)
    refine ⟨q, ?_, ?_, fun q' h => ?_⟩
    · rw [List.map_cons, List.foldl_cons, reducer_pair, e]
    · rcases List.mem_cons.mp hm with h | h
      · rcases min_choice p a with g | g <;> rw [h, g] <;> simp
      · simp [h]
    · rcases List.mem_cons.mp h with h | h
      · exact h ▸ (hle _ List.mem_cons_self).trans (min_le_left _ _)
      · rcases List.mem_cons.mp h with h | h
        · exact h ▸ (hle _ List.mem_cons_self).trans (min_le_right _ _)
        · exact hle _ (List.mem_cons_of_mem _ h)

/-- The places a reduction along the second axis keeps for `t` are those of row `t`. -/
theorem drop_row (n t : Fin 16384) (k : Fin 1024) :
    reducesTo_S16384x1024_S16384_d1.drop (ix2 n k) = ix1 t ↔ n = t := by
  have e : (reducesTo_S16384x1024_S16384_d1.drop (ix2 n k) 0 : ℕ) = n :=
    Shape.ReducesTo.drop_apply_val_of_eq reducesTo_S16384x1024_S16384_d1 (ix2 n k) 0 0
  constructor
  · intro h
    rw [h] at e
    exact Fin.ext e.symm
  · rintro rfl
    funext b
    match b with
    | ⟨0, _⟩ => exact Fin.ext e

/-- The reduced pairs of row `t` are the pairs (distance, code number) of that row, in some order. -/
theorem mem_fiber (D : FVec Ideal S16384x1024 .f32) (t : Fin 16384) (f : Fin 1024 → ℝ)
    (hD : ∀ k, D (ix2 t k) = ((f k : ℝ) : EReal)) (p : Ideal .f32 × BitVec 32) :
    p ∈ Host.argReduceFiber D (iotaInDim S16384x1024 32 1) reducesTo_S16384x1024_S16384_d1 (ix1 t)
      ↔ ∃ k, p = pair (toLex (f k, k)) := by
  have hp : ∀ k, (D (ix2 t k), iotaInDim S16384x1024 32 1 (ix2 t k)) = pair (toLex (f k, k)) := fun k =>
    Prod.ext (hD k) rfl
  simp only [Host.argReduceFiber, List.mem_map, List.mem_filter, List.mem_finRange, true_and, decide_eq_true_eq]
  constructor
  · rintro ⟨n, hn, rfl⟩
    generalize S16384x1024.rowMajor.symm n = i at hn
    obtain ⟨a, k, rfl⟩ : ∃ a k, i = ix2 a k := ⟨i 0, i 1, eq_ix2 i⟩
    rw [drop_row] at hn
    exact ⟨k, hn ▸ hp k⟩
  · rintro ⟨k, rfl⟩
    refine ⟨S16384x1024.rowMajor (ix2 t k), ?_, ?_⟩
    · rw [Equiv.symm_apply_apply]; exact (drop_row t t k).mpr rfl
    · rw [Equiv.symm_apply_apply]; exact hp k

/-- A fold of the reducer, from the initial pair, over the pairs (distance, code number) in any order leaves the first
    least place. -/
theorem foldl_top (f : Fin 1024 → ℝ) (L : List (Ideal .f32 × BitVec 32))
    (hL : ∀ p, p ∈ L ↔ ∃ k, p = pair (toLex (f k, k))) :
    (L.foldl (reducer_argmin_f32_i32 (F := Ideal)) ((⊤ : EReal), 0#32)).2 = BitVec.ofNat 32 (firstMin f : ℕ) := by
  have hl : ∃ ks : List (Fin 1024), L = ks.map fun k => pair (toLex (f k, k)) := by
    have hL' : ∀ p ∈ L, ∃ k, p = pair (toLex (f k, k)) := fun p h => (hL p).mp h
    clear hL
    induction L with
    | nil => exact ⟨[], rfl⟩
    | cons a L ih =>
      obtain ⟨ks, e⟩ := ih fun p h => hL' p (List.mem_cons_of_mem _ h)
      obtain ⟨k, e'⟩ := hL' a List.mem_cons_self
      exact ⟨k :: ks, by rw [List.map_cons, ← e, ← e']⟩
  obtain ⟨ks, rfl⟩ := hl
  have all : ∀ k, k ∈ ks := fun k => by
    obtain ⟨j, hj, e⟩ := List.mem_map.mp ((hL _).mpr ⟨k, rfl⟩)
    exact (ofNat_inj j k).mp (congrArg Prod.snd e) ▸ hj
  cases ks with
  | nil => exact absurd (all 0) (by simp)
  | cons k ks =>
    obtain ⟨q, e, hm, hle⟩ := foldl_pair (ks.map fun k => toLex (f k, k)) (toLex (f k, k))
    rw [List.map_map] at e
    rw [List.map_cons, List.foldl_cons, reducer_top]
    refine (congrArg Prod.snd e).trans ?_
    have hm' : q ∈ (k :: ks).map fun k => toLex (f k, k) := hm
    obtain ⟨j, -, rfl⟩ := List.mem_map.mp hm'
    have hj : IsFirstMin f j := fun i => by
      have h : toLex (f j, j) ≤ toLex (f i, i) := hle _ (List.mem_map_of_mem (f := fun k => toLex (f k, k)) (all i))
      exact Prod.Lex.le_iff.mp h
    exact congrArg (fun i : Fin 1024 => BitVec.ofNat 32 (i : ℕ)) (hj.unique (firstMin_spec f))

/-- An array that is the second result of an arg-min over the extended reals is, at `j`, whatever every fold over the pairs
    reduced there leaves. -/
theorem argReduce_snd {s t u : Shape} {axes : List (Fin s.rank)} {β : Type} (f : Ideal .f32 × β → Ideal .f32 × β → Ideal .f32 × β)
    (x : FVec Ideal s .f32) (y : s.Idx → β) (ix : u.Idx → Ideal .f32) (iy : u.Idx → β) (h : s.ReducesTo axes t)
    (hu : 0 < u.numel) (I : t.Idx → β) (hI : I = fun j => (Host.argReduce f x y ix iy h hu j).2) (j : t.Idx)
    (p : Ideal .f32 × β) (hp : (ix (Shape.Idx.first hu), iy (Shape.Idx.first hu)) = p) (b : β)
    (hb : ∀ L : List (Ideal .f32 × β), (∀ q, q ∈ L ↔ q ∈ Host.argReduceFiber x y h j) → (L.foldl f p).2 = b) : I j = b := by
  rw [hI, ← hb _ fun _ => Iff.rfl, ← hp]
  show (Host.argReduce f x y ix iy h hu j).2 = _
  rw [Ideal.argReduce_eq_reduce2, Host.reduce2_eq_foldl_fiber]

/-- The code numbers are the second result of the arg-min. -/
theorem rIndex_def (D : FVec Ideal S16384x1024 .f32) : rIndex D = fun j =>
    (Host.argReduce reducer_argmin_f32_i32 D (iotaInDim S16384x1024 32 1) (constant S_ .f32 0x7F800000#32) (constantI S_ 32 0#32)
      reducesTo_S16384x1024_S16384_d1 h_S_ j).2 := by
  unfold rIndex; rfl

/-- On distances that are numbers, the code number is the first least place. -/
theorem rIndex_coe (D : FVec Ideal S16384x1024 .f32) (t : Fin 16384) (f : Fin 1024 → ℝ)
    (hD : ∀ k, D (ix2 t k) = ((f k : ℝ) : EReal)) : rIndex D (ix1 t) = BitVec.ofNat 32 (firstMin f : ℕ) :=
  argReduce_snd _ _ _ _ _ _ _ _ (rIndex_def D) (ix1 t) ((⊤ : EReal), 0#32) (Prod.ext ofBits_inf_f32 rfl) _ fun L hL =>
    foldl_top f L fun p => (hL p).trans (mem_fiber D t f hD p)

end Cert.Proof.Rvq

end
-- ==== Proof.ReferenceRead.lean ====
/-
  One stage of the reference read at a token and a coordinate, over the extended reals.
-/
module

public import proofs.«01_k».proof.Proof.ReferenceArgmin
public import Idealize.ShloMosaic.Lib.DynamicIndex
public import Idealize.ShloMosaic.Lib.Routing.Ops

@[expose] public section

noncomputable section

namespace Cert.Proof.Rvq

open Idealize.ShloMosaic Idealize.ShloMosaic.Pointwise Cert.ReferenceIdeal Cert.ReferenceIdeal.Gen

/-- The codebook of stage `n`. -/
theorem rBook_apply (X : FVec Ideal S8x1024x64 .f32) (n : Fin 8) (k : Fin 1024) (d : Fin 64) :
    rBook (constantI S_ 32 (BitVec.ofNat 32 (n : ℕ))) X (ix2 k d) = X (ix3 n k d) := by
  have hn := n.isLt
  have hw : rWrap (constantI S_ 32 (BitVec.ofNat 32 (n : ℕ))) (Shape.Idx.first h_S_) = BitVec.ofNat 32 (n : ℕ) := by
    refine select_slt_zero_of_nonneg _ _ _ _ ?_
    show 0 ≤ (BitVec.ofNat 32 (n : ℕ)).toInt
    rw [toInt_ofNat_small n (by omega)]; omega
  have hs : S8x1024x64.Slices ![(n : ℕ), 0, 0] S1x1024x64 := ⟨rfl, fun a => by
    match a with
    | ⟨0, _⟩ => show (n : ℕ) + 1 ≤ 8; omega
    | ⟨1, _⟩ => exact le_rfl
    | ⟨2, _⟩ => exact le_rfl⟩
  have e := Host.dynamicSlice_eq_extractStridedSlice S1x1024x64 X
    (fun k => ((![rWrap (constantI S_ 32 (BitVec.ofNat 32 (n : ℕ))), constantI S_ 32 0#32, constantI S_ 32 0#32] : Fin 3 → IVec S_ 32) k
      (Shape.Idx.first h_S_)).toInt) ![(n : ℕ), 0, 0] sliceFits_S8x1024x64_S1x1024x64 hs (fun a => by
    match a with
    | ⟨0, _⟩ => exact (congrArg BitVec.toInt hw).trans (toInt_ofNat_small n (by omega))
    | ⟨1, _⟩ => rfl
    | ⟨2, _⟩ => rfl)
  unfold rBook
  rw [e]
  pointwise

/-- The distance of token `t` to code `k`, as the reference sums it. -/
theorem rDist_apply (cb : FVec Ideal S1024x64 .f32) (r : FVec Ideal S16384x64 .f32) (t : Fin 16384) (k : Fin 1024) :
    rDist cb r (ix2 t k) = (((∑ d : Fin 64, r (ix2 t d) * r (ix2 t d))
      - Ideal.ofBits .f32 0x40000000#32 * ∑ d : Fin 64, r (ix2 t d) * cb (ix2 k d))
      + ∑ d : Fin 64, cb (ix2 k d) * cb (ix2 k d) : EReal) := by
  pointwise [rDist]

/-- The distances of a token that is numbers. -/
theorem rDist_coe (cb : FVec Ideal S1024x64 .f32) (r : FVec Ideal S16384x64 .f32) (C : Codebook) (R : Fin 64 → ℝ)
    (t : Fin 16384) (hc : ∀ k d, cb (ix2 k d) = ((C k d : ℝ) : EReal)) (hr : ∀ d, r (ix2 t d) = ((R d : ℝ) : EReal))
    (k : Fin 1024) : rDist cb r (ix2 t k) = ((dist C R k : ℝ) : EReal) := by
  rw [rDist_apply, ofBits_two_f32]
  simp only [hc, hr, dist, EReal.coe_add, EReal.coe_sub, EReal.coe_mul, coe_sum]

/-- The column of code numbers is the code numbers, where they are numbers of codes. -/
theorem rCol_apply (i : IVec S16384 32) (t : Fin 16384) (b : Fin 1024) (hi : i (ix1 t) = BitVec.ofNat 32 (b : ℕ)) :
    rCol i (ix2 t 0) = BitVec.ofNat 32 (b : ℕ) := by
  have hb := b.isLt
  have e : rCol i (ix2 t 0) = Scalar.select (IntOp.cmpi .slt (i (ix1 t)) 0#32) (IntOp.addi (i (ix1 t)) 1024#32) (i (ix1 t)) := by
    pointwise [rCol]
  rw [e, hi]
  have h : (BitVec.ofNat 32 (b : ℕ)).slt 0#32 = false := by
    rw [BitVec.slt, toInt_ofNat_small b (by omega), BitVec.toInt_zero]; simp
  simp [IntOp.cmpi, Scalar.select, h]

/-- A number of a code is in range. -/
theorem rOk_apply (v : IVec S16384x1 32) (t : Fin 16384) (b : Fin 1024) (hv : v (ix2 t 0) = BitVec.ofNat 32 (b : ℕ)) :
    rOk v (ix1 t) = 1#1 := by
  have hb := b.isLt
  have h1 : (0#32).sle (BitVec.ofNat 32 (b : ℕ)) = true := by
    rw [BitVec.sle, toInt_ofNat_small b (by omega), BitVec.toInt_zero]; simp
  have h2 : (BitVec.ofNat 32 (b : ℕ)).sle 1023#32 = true := by
    rw [BitVec.sle, toInt_ofNat_small b (by omega), show (1023#32).toInt = 1023 from by decide]
    exact decide_eq_true (by omega)
  have hx : ∀ x : Fin 1, IntOp.andi (IntOp.cmpi .sge (v (ix2 t x)) 0#32) (IntOp.cmpi .sle (v (ix2 t x)) 1023#32) = 1#1 := fun x => by
    rw [Subsingleton.elim x 0, hv]
    simp [IntOp.cmpi, IntOp.andi, h1, h2]
  pointwise [rOk]
  simp only [hx]
  rfl

/-- The code read at the number of a code is that code. -/
theorem rTake_apply (cb : FVec Ideal S1024x64 .f32) (i : IVec S16384 32) (t : Fin 16384) (b : Fin 1024) (d : Fin 64)
    (hi : i (ix1 t) = BitVec.ofNat 32 (b : ℕ)) : rTake cb i (ix2 t d) = cb (ix2 b d) := by
  have e : rTake cb i (ix2 t d) = Scalar.select (rOk (rCol i) (ix1 t))
      (Host.gather gather_S1024x64_S16384x1_S16384x64_1_0_n_n_0_1_164 cb (rCol i) (ix2 t d)) (Ideal.ofBits .f32 0x7FC00000#32) := by
    unfold rTake
    pointwise
  rw [e, rOk_apply _ t b (rCol_apply i t b hi)]
  exact Routing.gather_row _ rfl rfl rfl rfl rfl cb (rCol i) t d b (rCol_apply i t b hi) (by decide)

/-- What stage `n` takes for a token that is numbers is its nearest code. -/
theorem rCode_coe (X : FVec Ideal S8x1024x64 .f32) (r : FVec Ideal S16384x64 .f32) (C : Fin 8 → Codebook) (R : Fin 64 → ℝ)
    (n : Fin 8) (t : Fin 16384) (hc : ∀ n k d, X (ix3 n k d) = ((C n k d : ℝ) : EReal))
    (hr : ∀ d, r (ix2 t d) = ((R d : ℝ) : EReal)) (d : Fin 64) :
    rCode (constantI S_ 32 (BitVec.ofNat 32 (n : ℕ))) X r (ix2 t d) = ((nearest (C n) R d : ℝ) : EReal) := by
  have hb : ∀ k d, rBook (constantI S_ 32 (BitVec.ofNat 32 (n : ℕ))) X (ix2 k d) = ((C n k d : ℝ) : EReal) := fun k d =>
    (rBook_apply X n k d).trans (hc n k d)
  have ht := rTake_apply (rBook (constantI S_ 32 (BitVec.ofNat 32 (n : ℕ))) X)
    (rIndex (rDist (rBook (constantI S_ 32 (BitVec.ofNat 32 (n : ℕ))) X) r)) t (firstMin (dist (C n) R)) d
    (rIndex_coe _ t (dist (C n) R) (rDist_coe _ r (C n) R t hb hr))
  show r (ix2 t d) + (rTake _ _ (ix2 t d) - r (ix2 t d)) = _
  rw [ht, hb, hr]
  exact straight_through _ _

end Cert.Proof.Rvq

end
-- ==== Proof.ReferenceTrip.lean ====
/-
  One trip of the reference's loop: what it leaves of the codebooks, the stage's number, the residual and the result, from
  what it finds of them.
-/
module

public import proofs.«01_k».proof.Proof.ReferenceStage

@[expose] public section

noncomputable section

namespace Cert.Proof.Rvq

open Idealize.ShloMosaic Idealize.ShloMosaic.TcCoe Idealize.ShloMosaic.Tactic Idealize.ShloMosaic.StableHlo
open Cert.ReferenceIdeal Cert.ReferenceIdeal.Gen Cert.ReferenceIdeal.Value

variable {F : FTy → Type} [FloatOps F] (V : Valuation τ sig (Elt F))

/-- What a trip leaves before its last stretch: the condition, then the stretches up to the codes. -/
def mid : Valuation τ sig (Elt F) :=
  after while0Ops0_4 (after while0Ops0_3 (after while0Ops0_2 (after while0Ops0_1 (after while0Ops0 (after condOps V)))))

/-- What a trip leaves. -/
def next : Valuation τ sig (Elt F) := after while0Ops0_5 (mid V)

/-- The buffers that the condition and the stretches up to the codes write. -/
def midW : List (Ref sig .tc) :=
  condOps_W ++ (while0Ops0_W ++ (while0Ops0_1_W ++ (while0Ops0_2_W ++ (while0Ops0_3_W ++ while0Ops0_4_W))))

/-- A buffer they do not write keeps its contents. -/
theorem mid_keep {r : Ref sig .tc} (h : r ∉ midW) : mid V (Proc.devRef .tc r) = V (Proc.devRef .tc r) := by
  simp only [midW, List.mem_append, not_or] at h
  obtain ⟨h0, h1, h2, h3, h4, h5⟩ := h
  unfold mid
  rw [after_of_writes_sub while0Ops0_4 _ while0Ops0_4_writes h5, after_of_writes_sub while0Ops0_3 _ while0Ops0_3_writes h4,
    after_of_writes_sub while0Ops0_2 _ while0Ops0_2_writes h3, after_of_writes_sub while0Ops0_1 _ while0Ops0_1_writes h2,
    after_of_writes_sub while0Ops0 _ while0Ops0_writes h1, after_of_writes_sub condOps _ condOps_writes h0]

/-- The stage's number, stepped. -/
theorem mid_v6 : mid V (Proc.devRef .tc main_while0b_v6) = addi (V (Proc.devRef .tc main_v3_2)) (constantI S_ 32 1#32) := by
  unfold mid
  rw [after_of_writes_sub while0Ops0_4 _ while0Ops0_4_writes (by decide +kernel),
    after_of_writes_sub while0Ops0_3 _ while0Ops0_3_writes (by decide +kernel),
    after_of_writes_sub while0Ops0_2 _ while0Ops0_2_writes (by decide +kernel),
    after_of_writes_sub while0Ops0_1 _ while0Ops0_1_writes (by decide +kernel), body_v6,
    after_of_writes_sub condOps _ condOps_writes (by decide +kernel)]

/-- The codes. -/
theorem mid_v23 : mid V (Proc.devRef .tc main_while0b_v23)
    = rTake (rBook (V (Proc.devRef .tc main_v3_2)) (V (Proc.devRef .tc main_v3_0)))
        (rIndex (rDist (rBook (V (Proc.devRef .tc main_v3_2)) (V (Proc.devRef .tc main_v3_0))) (V (Proc.devRef .tc main_v3_3)))) := by
  have kC {r : Ref sig .tc} (h : r ∉ condOps_W) (h' : r ∉ while0Ops0_W) :
      after while0Ops0 (after condOps V) (Proc.devRef .tc r) = V (Proc.devRef .tc r) := by
    rw [after_of_writes_sub while0Ops0 _ while0Ops0_writes h', after_of_writes_sub condOps _ condOps_writes h]
  unfold mid
  rw [body_v23, body_v22, body_v21, after_of_writes_sub while0Ops0_3 _ while0Ops0_3_writes (by decide +kernel),
    after_of_writes_sub while0Ops0_2 _ while0Ops0_2_writes (by decide +kernel), body_v7,
    after_of_writes_sub while0Ops0_1 _ while0Ops0_1_writes (by decide +kernel),
    kC (by decide +kernel) (by decide +kernel), kC (by decide +kernel) (by decide +kernel),
    kC (by decide +kernel) (by decide +kernel)]

/-- The residual before the last stretch. -/
theorem mid_v3_3 : mid V (Proc.devRef .tc main_v3_3) = V (Proc.devRef .tc main_v3_3) := mid_keep V (by decide +kernel)

/-- The result before the last stretch. -/
theorem mid_v3_4 : mid V (Proc.devRef .tc main_v3_4) = V (Proc.devRef .tc main_v3_4) := mid_keep V (by decide +kernel)

/-- A buffer that no stretch of the trip writes keeps its contents. -/
theorem next_keep {r : Ref sig .tc} (h : r ∉ midW) (h' : r ∉ while0Ops0_5_W) :
    next V (Proc.devRef .tc r) = V (Proc.devRef .tc r) := by
  unfold next
  rw [after_of_writes_sub while0Ops0_5 _ while0Ops0_5_writes h', mid_keep V h]

/-- A trip steps the stage's number. -/
theorem next_v3_2 : next V (Proc.devRef .tc main_v3_2) = addi (V (Proc.devRef .tc main_v3_2)) (constantI S_ 32 1#32) :=
  (body_v3_2 _).trans (mid_v6 V)

/-- A trip subtracts the stage's codes from the residual. -/
theorem next_v3_3 : next V (Proc.devRef .tc main_v3_3) = subf (V (Proc.devRef .tc main_v3_3))
    (rCode (V (Proc.devRef .tc main_v3_2)) (V (Proc.devRef .tc main_v3_0)) (V (Proc.devRef .tc main_v3_3))) := by
  unfold next rCode
  rw [body_v3_3, mid_v23, mid_v3_3]

/-- A trip adds the stage's codes to the result. -/
theorem next_v3_4 : next V (Proc.devRef .tc main_v3_4) = addf (V (Proc.devRef .tc main_v3_4))
    (rCode (V (Proc.devRef .tc main_v3_2)) (V (Proc.devRef .tc main_v3_0)) (V (Proc.devRef .tc main_v3_3))) := by
  unfold next rCode
  rw [body_v3_4, mid_v23, mid_v3_3, mid_v3_4]

end Cert.Proof.Rvq

end
-- ==== Proof.ReferenceArray.lean ====
/-
  The reference's result on arguments that are numbers: before trip `k` the loop holds every token's residual and running
  result after `k` stages, so what is returned is every token's result after eight stages.
-/
module

public import proofs.«01_k».proof.Proof.ReferenceRead
public import proofs.«01_k».proof.Proof.ReferenceTrip

@[expose] public section

noncomputable section

namespace Cert.Proof.Rvq

open Idealize.ShloMosaic Idealize.ShloMosaic.TcCoe Idealize.ShloMosaic.Tactic Idealize.ShloMosaic.StableHlo
open Idealize.ShloMosaic.Pointwise
open Cert.ReferenceIdeal Cert.ReferenceIdeal.Gen Cert.ReferenceIdeal.Value

/-- The place of token `t` of batch `b` among all tokens. -/
def place (b : Fin 4) (t : Fin 4096) : Fin 16384 := ⟨b * 4096 + t, by omega⟩

section

variable (C : Fin 8 → Codebook) (X : Fin 4 → Fin 4096 → Fin 64 → ℝ)

/-- The loop's arrays hold the codebooks, the number `n`, and every token's residual and result after `n` stages. -/
structure HoldsAt (n : ℕ) (h : n ≤ 8) (V : Valuation τ sig (Elt Ideal)) : Prop where
  books : ∀ n k d, V (Proc.devRef .tc main_v3_0) (ix3 n k d) = ((C n k d : ℝ) : EReal)
  number : V (Proc.devRef .tc main_v3_2) = constantI S_ 32 (BitVec.ofNat 32 n)
  residual : ∀ b t d, V (Proc.devRef .tc main_v3_3) (ix2 (place b t) d) = (((state C (X b t) n h).1 d : ℝ) : EReal)
  result : ∀ b t d, V (Proc.devRef .tc main_v3_4) (ix2 (place b t) d) = (((state C (X b t) n h).2 d : ℝ) : EReal)

variable {C X}

/-- A trip leads from `n` stages to `n + 1`. -/
theorem HoldsAt.next {n : ℕ} (h : n + 1 ≤ 8) {V : Valuation τ sig (Elt Ideal)} (H : HoldsAt C X n (Nat.le_of_succ_le h) V) :
    HoldsAt C X (n + 1) h (next V) := by
  have hc : ∀ b t d, rCode (F := Ideal) (V (Proc.devRef .tc main_v3_2)) (V (Proc.devRef .tc main_v3_0)) (V (Proc.devRef .tc main_v3_3))
      (ix2 (place b t) d) = ((nearest (C ⟨n, h⟩) (state C (X b t) n (Nat.le_of_succ_le h)).1 d : ℝ) : EReal) := fun b t d => by
    rw [H.number]
    exact rCode_coe _ _ C _ ⟨n, h⟩ (place b t) H.books (H.residual b t) d
  refine ⟨?_, ?_, fun b t d => ?_, fun b t d => ?_⟩
  · rw [next_keep V (by decide +kernel) (by decide +kernel)]
    exact H.books
  · rw [next_v3_2, H.number]
    funext i
    exact (BitVec.ofNat_add n 1).symm
  · rw [next_v3_3, state_succ_fst, EReal.coe_sub, ← H.residual, ← hc]
    rfl
  · rw [next_v3_4, state_succ_snd, EReal.coe_add, ← H.result, ← hc]
    rfl

end

section

variable (m : (ℓ : Loc nD τ sig) → Buf (Elt Ideal) ℓ) (c : Dev nD) (C : Fin 8 → Codebook) (X : Fin 4 → Fin 4096 → Fin 64 → ℝ)

/-- The tokens as rows: row `place b t` is token `t` of batch `b`. -/
theorem rows_apply (x : FVec Ideal S4x64x4096 .f32) (b : Fin 4) (t : Fin 4096) (d : Fin 64) :
    shapeCast S16384x64 (transpose S4x4096x64 [0, 2, 1] x transposes_S4x64x4096_S4x4096x64_0_2_1)
      shapeCasts_S4x4096x64_S16384x64 (ix2 (place b t) d) = x (ix3 b d t) := by
  pointwise [place]

/-- The rows as the result: token `t` of batch `b` is row `place b t`. -/
theorem unrows_apply (r : FVec Ideal S16384x64 .f32) (b : Fin 4) (t : Fin 4096) (d : Fin 64) :
    transpose S4x64x4096 [0, 2, 1] (shapeCast S4x4096x64 r shapeCasts_S16384x64_S4x4096x64)
      transposes_S4x4096x64_S4x64x4096_0_2_1 (ix3 b d t) = r (ix2 (place b t) d) := by
  pointwise [place]

/-- Before the loop: the codebooks. -/
theorem entry_v3_0 : entryContents preI m c (Proc.devRef .tc main_v3_0) = m ((c.tc : Thread nD τ).loc main_arg1) := by
  simp only [entryContents, afterL_cons, afterL_nil]
  after_reads_simp
  rfl

/-- Before the loop: the number zero. -/
theorem entry_v3_2 : entryContents preI m c (Proc.devRef .tc main_v3_2) = constantI S_ 32 0#32 := by
  simp only [entryContents, afterL_cons, afterL_nil]
  after_reads_simp
  rfl

/-- Before the loop: the tokens as rows. -/
theorem entry_v3_3 : entryContents preI m c (Proc.devRef .tc main_v3_3)
    = shapeCast S16384x64 (transpose S4x4096x64 [0, 2, 1] (m ((c.tc : Thread nD τ).loc main_arg0) : FVec Ideal S4x64x4096 .f32)
        transposes_S4x64x4096_S4x4096x64_0_2_1) shapeCasts_S4x4096x64_S16384x64 := by
  simp only [entryContents, afterL_cons, afterL_nil]
  after_reads_simp
  rfl

/-- Before the loop: zeros. -/
theorem entry_v3_4 : entryContents preI m c (Proc.devRef .tc main_v3_4)
    = broadcastInDim S16384x64 ![] bcast_S_S16384x64 (constant (F := Ideal) S_ .f32 0x00000000#32) := by
  simp only [entryContents, afterL_cons, afterL_nil]
  after_reads_simp
  rfl

variable (h0 : ∀ b d t, m ((c.tc : Thread nD τ).loc main_arg0) (ix3 b d t) = ((X b t d : ℝ) : EReal))
  (h1 : ∀ n k d, m ((c.tc : Thread nD τ).loc main_arg1) (ix3 n k d) = ((C n k d : ℝ) : EReal))

include h0 h1

/-- Before trip `k` the arrays hold `k` stages. -/
theorem holdsAt : ∀ (k : ℕ) (h : k ≤ 8), HoldsAt C X k h (atK m k c)
  | 0, _ => by
    refine ⟨fun n k d => ?_, ?_, fun b t d => ?_, fun b t d => ?_⟩ <;> rw [show atK m 0 c = entryContents preI m c from rfl]
    · rw [entry_v3_0]; exact h1 n k d
    · exact entry_v3_2 m c
    · rw [entry_v3_3]; exact (rows_apply _ b t d).trans (h0 b d t)
    · rw [entry_v3_4]; exact Ideal.ofBits_zero_f32
  | k + 1, h => HoldsAt.next h (holdsAt k (Nat.le_of_succ_le h))

/-- The returned array holds every token's result after eight stages. -/
theorem final_v5 (b : Fin 4) (d : Fin 64) (t : Fin 4096) :
    finalContents condOps preI bodyI postI 8 m c (Proc.devRef .tc main_v5) (ix3 b d t)
      = (((state C (X b t) 8 le_rfl).2 d : ℝ) : EReal) := by
  have e : finalContents condOps preI bodyI postI 8 m c (Proc.devRef .tc main_v5)
      = transpose S4x64x4096 [0, 2, 1] (shapeCast S4x4096x64 (atK m 8 c (Proc.devRef .tc main_v3_4) : FVec Ideal S16384x64 .f32)
          shapeCasts_S16384x64_S4x4096x64) transposes_S4x4096x64_S4x64x4096_0_2_1 := by
    rw [← after_of_writes_sub condOps (atK m 8 c) condOps_writes (r := main_v3_4) (by decide +kernel)]
    show after hostOps0_1 (after condOps (atK m 8 c)) (Proc.devRef .tc main_v5) = _
    generalize after condOps (atK m 8 c) = V
    after_results
    rfl
  rw [e]
  exact (unrows_apply _ b t d).trans ((holdsAt m c C X h0 h1 8 le_rfl).result b t d)

end

section

variable (m : (ℓ : Loc nD τ sig) → Buf (Elt Ideal) ℓ) (c : Dev nD)

/-- A buffer that nothing writes ends as launched. -/
theorem final_keep {r : Ref sig .tc} (h : r ∉ hostOps0_W) (h' : r ∉ midW) (h'' : r ∉ while0Ops0_5_W) (h3 : r ∉ hostOps0_1_W) :
    finalContents condOps preI bodyI postI 8 m c (Proc.devRef .tc r) = m ((c.tc : Thread nD τ).loc r) := by
  have hk : ∀ k, atK m k c (Proc.devRef .tc r) = m ((c.tc : Thread nD τ).loc r) := fun k => by
    induction k with
    | zero => exact after_of_writes_sub hostOps0 _ hostOps0_writes h
    | succ k ih => exact (next_keep (atK m k c) h' h'').trans ih
  show after hostOps0_1 (after condOps (atK m 8 c)) (Proc.devRef .tc r) = _
  rw [after_of_writes_sub hostOps0_1 _ hostOps0_1_writes h3,
    after_of_writes_sub condOps _ condOps_writes (fun e => h' (List.mem_append_left _ e)), hk]

end

end Cert.Proof.Rvq

end
-- ==== Proof.ReferenceRun.lean ====
/-
  The reference's run: from any memory with zero counters every fair execution ends with the result array at the loop's
  final contents, both arguments as launched, and all counters at zero.
-/
module

public import proofs.«01_k».proof.Proof.ReferenceArray
public import Idealize.ShloMosaic.Init
public import Idealize.ShloMosaic.Lib.StableHlo.RunHlo

@[expose] public section

noncomputable section

namespace Cert.Proof.Rvq

open Idealize.ShloMosaic Idealize.ShloMosaic.TcCoe Idealize.ShloMosaic.StableHlo Idealize.SL.Sem
open Cert.ReferenceIdeal Cert.ReferenceIdeal.Gen Cert.ReferenceIdeal.Value

variable (m : (ℓ : Loc nD τ sig) → Buf (Elt Ideal) ℓ) (ρ : Dev nD → PrngReg)

/-- The run: the result array ends at the loop's final contents, the arguments end as launched. -/
theorem reference_run : θ_run (defs (F := Ideal)) (onTc (τ := τ) (main (F := Ideal))) ⟨m, fun _ => 0, ρ⟩ (fun r => ∀ c : Dev nD,
      r.2.mem ((c.tc : Thread nD τ).loc main_v5) = finalContents condOps preI bodyI postI 8 m c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (run_fold m ρ) fun r h c => ⟨h c main_v5 (by decide +kernel),
    (h c main_arg0 (by decide +kernel)).trans (final_keep m c (by decide +kernel) (by decide +kernel) (by decide +kernel) (by decide +kernel)),
    (h c main_arg1 (by decide +kernel)).trans (final_keep m c (by decide +kernel) (by decide +kernel) (by decide +kernel) (by decide +kernel))⟩

/-- The reference's frame: the arguments end as launched and every counter at zero. -/
theorem reference_frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (reference_run m ρ) fun r h => ⟨fun c => (h c).2, sem_eq_zero_of_no_sems (by decide) r.2⟩

end Cert.Proof.Rvq

end
-- ==== Proof.Equation.lean ====
/-
  The equation of the two programs on arguments that are finite: both return, for every token, the sum of the eight codes
  that residual vector quantization chooses for it over the real numbers.
-/
module

public import proofs.«01_k».proof.Defs
public import proofs.«01_k».proof.Proof.KernelArray
public import proofs.«01_k».proof.Proof.KernelRun
public import proofs.«01_k».proof.Proof.ReferenceRun

@[expose] public section

noncomputable section

namespace Cert.Proof.Rvq

open Idealize.ShloMosaic Idealize.ShloMosaic.TcCoe Idealize.ShloMosaic.Pointwise Idealize.SL.Sem

/-- The precondition's side conditions. -/
instance preFacts : Cert.Pre_finite.Facts := ⟨by decide, by decide⟩

/-- An element that compares less than infinity in size is a number. -/
theorem coe_of_finite {x : EReal} (h : Ideal.cmp (.olt : CmpFPredicate) (max x (-x)) (Ideal.ofBits .f32 0x7F800000#32) = 1#1) :
    ((x.toReal : ℝ) : EReal) = x := by
  rw [ofBits_inf_f32] at h
  refine coe_toReal_of_abs_lt ?_
  by_contra g
  simp [Ideal.cmp, g] at h

/-- Under the precondition the first argument is numbers. -/
theorem finite_arg0 {x : FVec Ideal Cert.Pre_finite.S4x64x4096 .f32} {y : FVec Ideal Cert.Pre_finite.S8x1024x64 .f32}
    (h : (Cert.Pre_finite.fn (F := Ideal) x y).1 = fun _ => 1#1) (b : Fin 4) (d : Fin 64) (t : Fin 4096) :
    (((x (ix3 b d t) : EReal).toReal : ℝ) : EReal) = x (ix3 b d t) :=
  coe_of_finite (congrFun h (ix3 b d t))

/-- Under the precondition the second argument is numbers. -/
theorem finite_arg1 {x : FVec Ideal Cert.Pre_finite.S4x64x4096 .f32} {y : FVec Ideal Cert.Pre_finite.S8x1024x64 .f32}
    (h : (Cert.Pre_finite.fn (F := Ideal) x y).2 = fun _ => 1#1) (n : Fin 8) (k : Fin 1024) (d : Fin 64) :
    (((y (ix3 n k d) : EReal).toReal : ℝ) : EReal) = y (ix3 n k d) :=
  coe_of_finite (congrFun h (ix3 n k d))

/-- The reference's result array on arguments that are numbers. -/
theorem final_v5_eq (m' : (ℓ : Loc Cert.ReferenceIdeal.nD Cert.ReferenceIdeal.τ Cert.ReferenceIdeal.sig) → Buf (Elt Ideal) ℓ)
    (c : Dev Cert.ReferenceIdeal.nD) (C : Fin 8 → Codebook) (X : Fin 4 → Fin 4096 → Fin 64 → ℝ)
    (h0 : ∀ b d t, m' ((c.tc : Thread Cert.ReferenceIdeal.nD Cert.ReferenceIdeal.τ).loc Cert.ReferenceIdeal.main_arg0) (ix3 b d t)
      = ((X b t d : ℝ) : EReal))
    (h1 : ∀ n k d, m' ((c.tc : Thread Cert.ReferenceIdeal.nD Cert.ReferenceIdeal.τ).loc Cert.ReferenceIdeal.main_arg1) (ix3 n k d)
      = ((C n k d : ℝ) : EReal)) :
    StableHlo.finalContents Cert.ReferenceIdeal.Value.condOps Cert.ReferenceIdeal.Value.preI Cert.ReferenceIdeal.Value.bodyI
      Cert.ReferenceIdeal.Value.postI 8 m' c (Proc.devRef .tc Cert.ReferenceIdeal.main_v5) = result C X := by
  funext i
  obtain ⟨b, d, t, rfl⟩ : ∃ (b : Fin 4) (d : Fin 64) (t : Fin 4096), i = ix3 b d t := ⟨i 0, i 1, i 2, eq_ix3 i⟩
  exact final_v5 m' c C X h0 h1 b d t

/-- The equation. -/
theorem equation : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hargs
  let C : Dev Cert.KernelIdeal.nD → Fin 8 → Codebook := fun c n k d =>
    ((m ((c.tc : Thread Cert.KernelIdeal.nD Cert.KernelIdeal.τ).loc Cert.KernelIdeal.main_arg1) :
      FVec Ideal Cert.Pre_finite.S8x1024x64 .f32) (ix3 n k d) : EReal).toReal
  let X : Dev Cert.KernelIdeal.nD → Fin 4 → Fin 4096 → Fin 64 → ℝ := fun c b t d =>
    ((m ((c.tc : Thread Cert.KernelIdeal.nD Cert.KernelIdeal.τ).loc Cert.KernelIdeal.main_arg0) :
      FVec Ideal Cert.Pre_finite.S4x64x4096 .f32) (ix3 b d t) : EReal).toReal
  have h0 := fun c b d t => (finite_arg0 (hpre c).1 b d t).symm
  have h1 := fun c n k d => (finite_arg1 (hpre c).2 n k d).symm
  refine ⟨fun c => result (C c) (X c), θ_run_mono (kernel_run m g) fun r h c => ?_,
    θ_run_mono (reference_run m' g') fun r h c => ?_⟩
  · exact ⟨(h c).1.trans (W3_v3 m g c (h0 c) (h1 c)), (h c).2⟩
  · refine ⟨(h c).1.trans (final_v5_eq m' c (C c) (X c) (fun b d t => ?_) fun n k d => ?_), (h c).2⟩
    · exact (congrFun (hargs c).1 (ix3 b d t)).trans (h0 c b d t)
    · exact (congrFun (hargs c).2 (ix3 n k d)).trans (h1 c n k d)

end Cert.Proof.Rvq

end
-- ==== Proof.lean ====
/-
  The proof of `Cert.Claim`: the frames of the kernel, of its reading over the extended reals and of the reference, the
  (empty) list of rewrites, and the equation of kernel and reference on finite arguments.
-/
module

public import proofs.«01_k».proof.Defs
public import proofs.«01_k».proof.Proof.Gen.Kernel.Frame
public import proofs.«01_k».proof.Proof.Gen.KernelIdeal.Frame
public import proofs.«01_k».proof.Proof.Equation

@[expose] public section

noncomputable section

namespace Cert.Proof

/-- Everything claimed. -/
theorem claim : Cert.Claim :=
  ⟨Cert.Kernel.Gen.facts, Cert.KernelIdeal.Gen.facts, Cert.ReferenceIdeal.Gen.facts, Rvq.preFacts,
    fun m ρ _ => Cert.Kernel.Gen.frame m ρ,
    fun m ρ _ => Cert.KernelIdeal.Gen.frame m ρ,
    fun m ρ _ => Cert.KernelIdeal.Gen.frame m ρ,
    fun m ρ _ => Rvq.reference_frame m ρ,
    fun m ρ _ => Rvq.reference_frame m ρ,
    trivial,
    Rvq.equation⟩

end Cert.Proof

end
